-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v15_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8x48x60x384 : Shape := ⟨5, ![1, 8, 48, 60, 384]⟩
abbrev S8x60x48x384 : Shape := ⟨4, ![8, 60, 48, 384]⟩
abbrev S8x48x60 : Shape := ⟨3, ![8, 48, 60]⟩
abbrev S12x32x384 : Shape := ⟨3, ![12, 32, 384]⟩
abbrev S384 : Shape := ⟨1, ![384]⟩
abbrev S384x1536 : Shape := ⟨2, ![384, 1536]⟩
abbrev S1536 : Shape := ⟨1, ![1536]⟩
abbrev S1536x384 : Shape := ⟨2, ![1536, 384]⟩
abbrev S8x48x60x384 : Shape := ⟨4, ![8, 48, 60, 384]⟩
abbrev S384x384 : Shape := ⟨2, ![384, 384]⟩
abbrev S1x384 : Shape := ⟨2, ![1, 384]⟩
abbrev S1x1536 : Shape := ⟨2, ![1, 1536]⟩
abbrev S8x60x48x1536 : Shape := ⟨4, ![8, 60, 48, 1536]⟩
abbrev S1x10x48x384 : Shape := ⟨4, ![1, 10, 48, 384]⟩
abbrev S1x48x60 : Shape := ⟨3, ![1, 48, 60]⟩
abbrev S1x10x48x1536 : Shape := ⟨4, ![1, 10, 48, 1536]⟩
abbrev S480x1536 : Shape := ⟨2, ![480, 1536]⟩
abbrev S48x60 : Shape := ⟨2, ![48, 60]⟩
abbrev S48 : Shape := ⟨1, ![48]⟩
abbrev S48x1 : Shape := ⟨2, ![48, 1]⟩
abbrev S480x1 : Shape := ⟨2, ![480, 1]⟩
abbrev S10x48x384 : Shape := ⟨3, ![10, 48, 384]⟩
abbrev S480x384 : Shape := ⟨2, ![480, 384]⟩
abbrev S480 : Shape := ⟨1, ![480]⟩
abbrev S480x128 : Shape := ⟨2, ![480, 128]⟩
abbrev S384x256 : Shape := ⟨2, ![384, 256]⟩
abbrev S480x256 : Shape := ⟨2, ![480, 256]⟩
abbrev S1x256 : Shape := ⟨2, ![1, 256]⟩
abbrev S10x48x256 : Shape := ⟨3, ![10, 48, 256]⟩
abbrev S1x10x48x256 : Shape := ⟨4, ![1, 10, 48, 256]⟩
abbrev S256x384 : Shape := ⟨2, ![256, 384]⟩

abbrev nBuf : Space → Nat
  | .hbm => 34
  | .vmem => 33
  | .smem => 0
  | _ => 0

abbrev bufTy : (tb : Table) → Fin (tcTables nBuf tb) → BufTy
  | .hbm, ⟨0, _⟩ => ⟨S1x8x48x60x384, .bf16⟩
  | .hbm, ⟨1, _⟩ => ⟨S8x60x48x384, .i8⟩
  | .hbm, ⟨2, _⟩ => ⟨S8x48x60, .f32⟩
  | .hbm, ⟨3, _⟩ => ⟨S12x32x384, .i8⟩
  | .hbm, ⟨4, _⟩ => ⟨S384, .f32⟩
  | .hbm, ⟨5, _⟩ => ⟨S384, .f32⟩
  | .hbm, ⟨6, _⟩ => ⟨S384x1536, .i8⟩
  | .hbm, ⟨7, _⟩ => ⟨S1536, .f32⟩
  | .hbm, ⟨8, _⟩ => ⟨S1536, .f32⟩
  | .hbm, ⟨9, _⟩ => ⟨S1536x384, .i8⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S384, .f32⟩
  | .hbm, ⟨15, _⟩ => ⟨S384, .f32⟩
  | .hbm, ⟨16, _⟩ => ⟨S8x48x60x384, .bf16⟩
  | .hbm, ⟨17, _⟩ => ⟨S8x60x48x384, .bf16⟩
  | .hbm, ⟨18, _⟩ => ⟨S384x384, .i8⟩
  | .hbm, ⟨19, _⟩ => ⟨S1x384, .f32⟩
  | .hbm, ⟨20, _⟩ => ⟨S1x384, .f32⟩
  | .hbm, ⟨21, _⟩ => ⟨S1x1536, .f32⟩
  | .hbm, ⟨22, _⟩ => ⟨S1x1536, .f32⟩
  | .hbm, ⟨23, _⟩ => ⟨S1x384, .f32⟩
  | .hbm, ⟨24, _⟩ => ⟨S1x384, .f32⟩
  | .hbm, ⟨25, _⟩ => ⟨S1x384, .f32⟩
  | .hbm, ⟨26, _⟩ => ⟨S1x384, .f32⟩
  | .hbm, ⟨27, _⟩ => ⟨S1x384, .f32⟩
  | .hbm, ⟨28, _⟩ => ⟨S1x384, .f32⟩
  | .hbm, ⟨29, _⟩ => ⟨S8x60x48x384, .bf16⟩
  | .hbm, ⟨30, _⟩ => ⟨S8x60x48x384, .i8⟩
  | .hbm, ⟨31, _⟩ => ⟨S8x48x60, .f32⟩
  | .hbm, ⟨32, _⟩ => ⟨S8x60x48x1536, .i8⟩
  | .hbm, ⟨33, _⟩ => ⟨S8x48x60, .f32⟩
  | .local _ .vmem, ⟨0, _⟩ => ⟨S1x10x48x384, .i8⟩
  | .local _ .vmem, ⟨1, _⟩ => ⟨S1x10x48x384, .i8⟩
  | .local _ .vmem, ⟨2, _⟩ => ⟨S1x48x60, .f32⟩
  | .local _ .vmem, ⟨3, _⟩ => ⟨S1x48x60, .f32⟩
  | .local _ .vmem, ⟨4, _⟩ => ⟨S1x10x48x384, .bf16⟩
  | .local _ .vmem, ⟨5, _⟩ => ⟨S1x10x48x384, .bf16⟩
  | .local _ .vmem, ⟨6, _⟩ => ⟨S384x384, .i8⟩
  | .local _ .vmem, ⟨7, _⟩ => ⟨S384x1536, .i8⟩
  | .local _ .vmem, ⟨8, _⟩ => ⟨S1536x384, .i8⟩
  | .local _ .vmem, ⟨9, _⟩ => ⟨S1x384, .f32⟩
  | .local _ .vmem, ⟨10, _⟩ => ⟨S1x384, .f32⟩
  | .local _ .vmem, ⟨11, _⟩ => ⟨S1x1536, .f32⟩
  | .local _ .vmem, ⟨12, _⟩ => ⟨S1x1536, .f32⟩
  | .local _ .vmem, ⟨13, _⟩ => ⟨S1x384, .f32⟩
  | .local _ .vmem, ⟨14, _⟩ => ⟨S1x384, .f32⟩
  | .local _ .vmem, ⟨15, _⟩ => ⟨S1x384, .f32⟩
  | .local _ .vmem, ⟨16, _⟩ => ⟨S1x384, .f32⟩
  | .local _ .vmem, ⟨17, _⟩ => ⟨S1x384, .f32⟩
  | .local _ .vmem, ⟨18, _⟩ => ⟨S1x384, .f32⟩
  | .local _ .vmem, ⟨19, _⟩ => ⟨S1x10x48x384, .bf16⟩
  | .local _ .vmem, ⟨20, _⟩ => ⟨S1x10x48x384, .bf16⟩
  | .local _ .vmem, ⟨21, _⟩ => ⟨S1x10x48x384, .i8⟩
  | .local _ .vmem, ⟨22, _⟩ => ⟨S1x10x48x384, .i8⟩
  | .local _ .vmem, ⟨23, _⟩ => ⟨S1x48x60, .f32⟩
  | .local _ .vmem, ⟨24, _⟩ => ⟨S1x48x60, .f32⟩
  | .local _ .vmem, ⟨25, _⟩ => ⟨S1x10x48x1536, .i8⟩
  | .local _ .vmem, ⟨26, _⟩ => ⟨S1x10x48x1536, .i8⟩
  | .local _ .vmem, ⟨27, _⟩ => ⟨S1x48x60, .f32⟩
  | .local _ .vmem, ⟨28, _⟩ => ⟨S1x48x60, .f32⟩
  | .local _ .vmem, ⟨29, _⟩ => ⟨S384x384, .bf16⟩
  | .local _ .vmem, ⟨30, _⟩ => ⟨S384x1536, .bf16⟩
  | .local _ .vmem, ⟨31, _⟩ => ⟨S1536x384, .bf16⟩
  | .local _ .vmem, ⟨32, _⟩ => ⟨S480x1536, .f32⟩
  | _, _ => ⟨S1x8x48x60x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨2, ![8, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10x48x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10x48x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S384x384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x384 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x10x48x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x10x48x384 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x48x60 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x10x48x1536 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x48x60 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== ReferenceIdeal.lean ====
abbrev S1x8x48x60x384 : Shape := ⟨5, ![1, 8, 48, 60, 384]⟩
abbrev S8x60x48x384 : Shape := ⟨4, ![8, 60, 48, 384]⟩
abbrev S8x48x60 : Shape := ⟨3, ![8, 48, 60]⟩
abbrev S12x32x384 : Shape := ⟨3, ![12, 32, 384]⟩
abbrev S384 : Shape := ⟨1, ![384]⟩
abbrev S384x1536 : Shape := ⟨2, ![384, 1536]⟩
abbrev S1536 : Shape := ⟨1, ![1536]⟩
abbrev S1536x384 : Shape := ⟨2, ![1536, 384]⟩
abbrev S8x60x48 : Shape := ⟨3, ![8, 60, 48]⟩
abbrev S23040x1 : Shape := ⟨2, ![23040, 1]⟩
abbrev S8x48x60x384 : Shape := ⟨4, ![8, 48, 60, 384]⟩
abbrev S384x384 : Shape := ⟨2, ![384, 384]⟩
abbrev S1x384 : Shape := ⟨2, ![1, 384]⟩
abbrev S1x1536 : Shape := ⟨2, ![1, 1536]⟩
abbrev S8x60x48x1536 : Shape := ⟨4, ![8, 60, 48, 1536]⟩
abbrev S23040x384 : Shape := ⟨2, ![23040, 384]⟩
abbrev S23040 : Shape := ⟨1, ![23040]⟩
abbrev S23040x1536 : Shape := ⟨2, ![23040, 1536]⟩

abbrev nBuf : Space → Nat
  | .hbm => 36
  | .vmem => 21
  | .smem => 0
  | _ => 0

abbrev bufTy : (tb : Table) → Fin (tcTables nBuf tb) → BufTy
  | .hbm, ⟨0, _⟩ => ⟨S1x8x48x60x384, .bf16⟩
  | .hbm, ⟨1, _⟩ => ⟨S8x60x48x384, .i8⟩
  | .hbm, ⟨2, _⟩ => ⟨S8x48x60, .f32⟩
  | .hbm, ⟨3, _⟩ => ⟨S12x32x384, .i8⟩
  | .hbm, ⟨4, _⟩ => ⟨S384, .f32⟩
  | .hbm, ⟨5, _⟩ => ⟨S384, .f32⟩
  | .hbm, ⟨6, _⟩ => ⟨S384x1536, .i8⟩
  | .hbm, ⟨7, _⟩ => ⟨S1536, .f32⟩
  | .hbm, ⟨8, _⟩ => ⟨S1536, .f32⟩
  | .hbm, ⟨9, _⟩ => ⟨S1536x384, .i8⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S384, .f32⟩
  | .hbm, ⟨15, _⟩ => ⟨S384, .f32⟩
  | .hbm, ⟨16, _⟩ => ⟨S8x60x48, .f32⟩
  | .hbm, ⟨17, _⟩ => ⟨S23040x1, .f32⟩
  | .hbm, ⟨18, _⟩ => ⟨S8x48x60x384, .bf16⟩
  | .hbm, ⟨19, _⟩ => ⟨S8x60x48x384, .bf16⟩
  | .hbm, ⟨20, _⟩ => ⟨S384x384, .i8⟩
  | .hbm, ⟨21, _⟩ => ⟨S1x384, .f32⟩
  | .hbm, ⟨22, _⟩ => ⟨S1x384, .f32⟩
  | .hbm, ⟨23, _⟩ => ⟨S1x1536, .f32⟩
  | .hbm, ⟨24, _⟩ => ⟨S1x1536, .f32⟩
  | .hbm, ⟨25, _⟩ => ⟨S1x384, .f32⟩
  | .hbm, ⟨26, _⟩ => ⟨S1x384, .f32⟩
  | .hbm, ⟨27, _⟩ => ⟨S1x384, .f32⟩
  | .hbm, ⟨28, _⟩ => ⟨S1x384, .f32⟩
  | .hbm, ⟨29, _⟩ => ⟨S1x384, .f32⟩
  | .hbm, ⟨30, _⟩ => ⟨S1x384, .f32⟩
  | .hbm, ⟨31, _⟩ => ⟨S8x60x48x384, .bf16⟩
  | .hbm, ⟨32, _⟩ => ⟨S8x60x48x384, .i8⟩
  | .hbm, ⟨33, _⟩ => ⟨S8x48x60, .f32⟩
  | .hbm, ⟨34, _⟩ => ⟨S8x60x48x1536, .i8⟩
  | .hbm, ⟨35, _⟩ => ⟨S8x48x60, .f32⟩
  | .local _ .vmem, ⟨0, _⟩ => ⟨S8x60x48x384, .i8⟩
  | .local _ .vmem, ⟨1, _⟩ => ⟨S23040x1, .f32⟩
  | .local _ .vmem, ⟨2, _⟩ => ⟨S8x60x48x384, .bf16⟩
  | .local _ .vmem, ⟨3, _⟩ => ⟨S384x384, .i8⟩
  | .local _ .vmem, ⟨4, _⟩ => ⟨S1x384, .f32⟩
  | .local _ .vmem, ⟨5, _⟩ => ⟨S1x384, .f32⟩
  | .local _ .vmem, ⟨6, _⟩ => ⟨S384x1536, .i8⟩
  | .local _ .vmem, ⟨7, _⟩ => ⟨S1x1536, .f32⟩
  | .local _ .vmem, ⟨8, _⟩ => ⟨S1x1536, .f32⟩
  | .local _ .vmem, ⟨9, _⟩ => ⟨S1536x384, .i8⟩
  | .local _ .vmem, ⟨10, _⟩ => ⟨S1x384, .f32⟩
  | .local _ .vmem, ⟨11, _⟩ => ⟨S1x384, .f32⟩
  | .local _ .vmem, ⟨12, _⟩ => ⟨S1x384, .f32⟩
  | .local _ .vmem, ⟨13, _⟩ => ⟨S1x384, .f32⟩
  | .local _ .vmem, ⟨14, _⟩ => ⟨S1x384, .f32⟩
  | .local _ .vmem, ⟨15, _⟩ => ⟨S1x384, .f32⟩
  | .local _ .vmem, ⟨16, _⟩ => ⟨S8x60x48x384, .bf16⟩
  | .local _ .vmem, ⟨17, _⟩ => ⟨S8x60x48x384, .i8⟩
  | .local _ .vmem, ⟨18, _⟩ => ⟨S8x48x60, .f32⟩
  | .local _ .vmem, ⟨19, _⟩ => ⟨S8x60x48x1536, .i8⟩
  | .local _ .vmem, ⟨20, _⟩ => ⟨S8x48x60, .f32⟩
  | _, _ => ⟨S1x8x48x60x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S8x60x48x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S23040x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x60x48x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x1536 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x384 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x60x48x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x60x48x384 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x48x60 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x60x48x1536 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x48x60 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.Row.lean ====
module

public import Idealize.ShloMosaic.Lib.Pointwise
/-! # The computation of one token

The projection, the layer norms and the two-layer perceptron act on every token (one row of 384 channels) by itself. This
module says, over the extended reals, what they compute for one row. Both programs are compared with these functions. -/
set_option maxRecDepth 16384
@[expose] public noncomputable section
open Idealize.ShloMosaic
open scoped BigOperators
namespace Cert.Mlp

/-- A linear layer on the integer codes `v` with scale `t`: product with the weight codes `W`, times `t`, times the
    weights' column scales `s`, plus the bias `b`. -/
def lin {n p : ℕ} (v : Fin n → EReal) (t : EReal) (W : Fin n → Fin p → EReal) (s b : Fin p → EReal) : Fin p → EReal :=
  fun k => (∑ c, v c * W c k) * t * s k + b k

/-- A row minus its mean over the 384 channels. -/
def cent (v : Fin 384 → EReal) : Fin 384 → EReal :=
  fun k => v k - Ideal.div (∑ c, v c) (Ideal.ofBits .f32 0x43C00000#32)

/-- The variance of a row, given centred, plus the layer norm's epsilon. -/
def varEps (w : Fin 384 → EReal) : EReal :=
  Ideal.div (∑ c, w c * w c) (Ideal.ofBits .f32 0x43C00000#32) + Ideal.ofBits .f32 0x3727C5AC#32

/-- The layer norm of a row with gain `g` and offset `b`. -/
def norm (v g b : Fin 384 → EReal) : Fin 384 → EReal :=
  fun k => Ideal.div (cent v k) (Ideal.sqrt (varEps (cent v))) * g k + b k

/-- A row `x` plus the layer norm of `a`. -/
def resid (x a g b : Fin 384 → EReal) : Fin 384 → EReal := fun k => x k + norm a g b k

/-- The largest magnitude of a row. -/
def amax {n : ℕ} (v : Fin n → EReal) : EReal := Finset.univ.fold max ⊥ fun k => max (v k) (-v k)

/-- The quantiser's scale for the largest magnitude `a`: `a / 127`, and 1 for a row of zeros. -/
def scale (a : EReal) : EReal := if a = 0 then 1 else Ideal.div a (Ideal.ofBits .f32 0x42FE0000#32)

/-- Rounding to the nearest integer (ties to even), clipped to `[-127, 127]`. -/
def clipRound (x : EReal) : EReal :=
  min (Ideal.ofBits .f32 0x42FE0000#32) (max (Ideal.ofBits .f32 0xC2FE0000#32) (Ideal.liftRound Ideal.roundHalfEven x))

/-- The 8-bit code of `x` at the scale `s`. -/
def code (s x : EReal) : BitVec 8 := Ideal.fptosi 8 (clipRound (Ideal.div x s))

/-- The value of an 8-bit code. -/
def codeVal (b : BitVec 8) : EReal := ((b.toInt : ℝ) : EReal)

/-- The Gaussian error linear unit, by the error function. -/
def gelu (z : EReal) : EReal :=
  Ideal.ofBits .f32 0x3F000000#32 * z * (1 + Ideal.erf (z * Ideal.ofBits .f32 0x3F3504F3#32))

/-- The first layer's output `h` on a row `u` (the row after the attention's residual): quantise, linear, `gelu`. -/
def hidden (u : Fin 384 → EReal) (W : Fin 384 → Fin 1536 → EReal) (s b : Fin 1536 → EReal) : Fin 1536 → EReal :=
  fun k => gelu (lin (fun c => codeVal (code (scale (amax u)) (u c))) (scale (amax u)) W s b k)

/-- The second layer's output on a row `h`: quantise, linear. -/
def second (h : Fin 1536 → EReal) (W : Fin 1536 → Fin 384 → EReal) (s b : Fin 384 → EReal) : Fin 384 → EReal :=
  lin (fun c => codeVal (code (scale (amax h)) (h c))) (scale (amax h)) W s b

end Cert.Mlp
-- ==== Proof.Body.lean ====
module

public import proofs.«01_k».proof.Proof.Gen.KernelIdeal.Value
public import proofs.«01_k».proof.Proof.Row
public import Idealize.ShloMosaic.Lib.Pipeline.ValueKit
public import Idealize.ShloMosaic.Lib.Pipeline.ReadBack
/-! # What one grid point of the kernel computes, as a function of the blocks it reads

`Blk` holds the blocks and the weights one grid point reads. The functions below are the values the body computes from them, each
the body's own operations in its own order; the row lemmas of `KRow` say what they are at an index. -/
set_option maxRecDepth 16384
@[expose] public noncomputable section
namespace Cert.KernelIdeal.Body
open Cert.KernelIdeal Cert.KernelIdeal.Gen Idealize.ShloMosaic Idealize.ShloMosaic.TcCoe Idealize.SL.Sem

/-- The blocks and weights one grid point reads. -/
structure Blk where
  oc : Vec Ideal S1x10x48x384 .i8
  os : Vec Ideal S1x48x60 .f32
  x : Vec Ideal S1x10x48x384 .bf16
  wp : Vec Ideal S384x384 .bf16
  w1 : Vec Ideal S384x1536 .bf16
  w2 : Vec Ideal S1536x384 .bf16
  sp : Vec Ideal S1x384 .f32
  bp : Vec Ideal S1x384 .f32
  s1 : Vec Ideal S1x1536 .f32
  b1 : Vec Ideal S1x1536 .f32
  s2 : Vec Ideal S1x384 .f32
  b2 : Vec Ideal S1x384 .f32
  g1 : Vec Ideal S1x384 .f32
  be1 : Vec Ideal S1x384 .f32
  g2 : Vec Ideal S1x384 .f32
  be2 : Vec Ideal S1x384 .f32

/-- The longitude's number at each place of a 48 by 60 block of scales. -/
abbrev lon : IVec S48x60 32 := iota Kind.tc S48x60 32 [1] iota_S48x60_d1_w32

/-- The first longitude of the grid point's ten. -/
abbrev first (i : grid0.Coords) : BitVec 32 := Scalar.muli (BitVec.ofNat 32 ↑(i 1)) 10#32

variable (i : grid0.Coords) (B : Blk)

/-- The centred projection. -/
def kC : FVec Ideal S480x384 .f32 :=
  k0_pay22 (k0_pay7 B.os) (k0_pay8 i B.os) (k0_pay9 i B.os) (k0_pay10 i B.os)
    (k0_pay12 (k0_pay7 B.os) (k0_pay11 i) (FloatOps.ofBits FTy.f32 0#32))
    (k0_pay13 lon (first i) (k0_pay7 B.os)) (k0_pay14 lon (first i) (k0_pay7 B.os)) (k0_pay15 lon (first i) (k0_pay7 B.os))
    (k0_pay16 lon (first i) (k0_pay7 B.os)) (k0_pay17 lon (first i) (k0_pay7 B.os)) (k0_pay18 lon (first i))
    (FloatOps.ofBits FTy.f32 0#32) B.oc B.wp B.sp B.bp

/-- The sums of squares of its rows. -/
def kS : FVec Ideal S480 .f32 :=
  k0_pay23 (k0_pay7 B.os) (k0_pay8 i B.os) (k0_pay9 i B.os) (k0_pay10 i B.os)
    (k0_pay12 (k0_pay7 B.os) (k0_pay11 i) (FloatOps.ofBits FTy.f32 0#32))
    (k0_pay13 lon (first i) (k0_pay7 B.os)) (k0_pay14 lon (first i) (k0_pay7 B.os)) (k0_pay15 lon (first i) (k0_pay7 B.os))
    (k0_pay16 lon (first i) (k0_pay7 B.os)) (k0_pay17 lon (first i) (k0_pay7 B.os)) (k0_pay18 lon (first i))
    (FloatOps.ofBits FTy.f32 0#32) B.oc B.wp B.sp B.bp

/-- The residual after the first layer norm. -/
def kX : FVec Ideal S480x384 .f32 := k0_pay24 (k0_pay19 B.x) (k0_pay20 B.g1) (k0_pay21 B.be1) (kC i B) (kS i B)

/-- Its scales. -/
def kM : FVec Ideal S480x1 .f32 := k0_pay25 (k0_pay19 B.x) (k0_pay20 B.g1) (k0_pay21 B.be1) (kC i B) (kS i B)

/-- Its codes, still as floats. -/
def kQ : FVec Ideal S480x384 .f32 := k0_pay26 (k0_pay19 B.x) (k0_pay20 B.g1) (k0_pay21 B.be1) (kC i B) (kS i B)

/-- Its codes. -/
def kMc : IVec S1x10x48x384 8 := k0_pay27 (k0_pay19 B.x) (k0_pay20 B.g1) (k0_pay21 B.be1) (kC i B) (kS i B)

/-- The block of scales after the point's ten columns are put into `cur`. -/
def kMs (cur : FVec Ideal S1x48x60 .f32) : FVec Ideal S1x48x60 .f32 :=
  k0_pay32 lon (first i) (kM i B)
    (k0_pay31 lon (first i) (kM i B) (k0_pay28 cur) (k0_pay29 lon (first i)) (k0_pay30 (k0_pay19 B.x) (k0_pay20 B.g1) (k0_pay21 B.be1) (kC i B) (kS i B))) 8#32

/-- Columns 0 to 255 of the first layer's weights, scales and bias. -/
abbrev w1c0 := View.ld B.w1 (Rect.unit ![0, 0] ![384, 256] inb_S384x1536_S384x256_0_0)
abbrev s1c0 := View.ld B.s1 (Rect.unit ![0, 0] ![1, 256] inb_S1x1536_S1x256_0_0)
abbrev b1c0 := View.ld B.b1 (Rect.unit ![0, 0] ![1, 256] inb_S1x1536_S1x256_0_0)
/-- Rows 0 to 255 of the second layer's weights. -/
abbrev w2r0 := View.ld B.w2 (Rect.unit ![0, 0] ![256, 384] inb_S1536x384_S256x384_0_0)

/-- Columns 256 to 511 of the first layer's weights, scales and bias. -/
abbrev w1c1 := View.ld B.w1 (Rect.unit ![0, 256] ![384, 256] inb_S384x1536_S384x256_0_256)
abbrev s1c1 := View.ld B.s1 (Rect.unit ![0, 256] ![1, 256] inb_S1x1536_S1x256_0_256)
abbrev b1c1 := View.ld B.b1 (Rect.unit ![0, 256] ![1, 256] inb_S1x1536_S1x256_0_256)
/-- Rows 256 to 511 of the second layer's weights. -/
abbrev w2r1 := View.ld B.w2 (Rect.unit ![256, 0] ![256, 384] inb_S1536x384_S256x384_256_0)

/-- Columns 512 to 767 of the first layer's weights, scales and bias. -/
abbrev w1c2 := View.ld B.w1 (Rect.unit ![0, 512] ![384, 256] inb_S384x1536_S384x256_0_512)
abbrev s1c2 := View.ld B.s1 (Rect.unit ![0, 512] ![1, 256] inb_S1x1536_S1x256_0_512)
abbrev b1c2 := View.ld B.b1 (Rect.unit ![0, 512] ![1, 256] inb_S1x1536_S1x256_0_512)
/-- Rows 512 to 767 of the second layer's weights. -/
abbrev w2r2 := View.ld B.w2 (Rect.unit ![512, 0] ![256, 384] inb_S1536x384_S256x384_512_0)

/-- Columns 768 to 1023 of the first layer's weights, scales and bias. -/
abbrev w1c3 := View.ld B.w1 (Rect.unit ![0, 768] ![384, 256] inb_S384x1536_S384x256_0_768)
abbrev s1c3 := View.ld B.s1 (Rect.unit ![0, 768] ![1, 256] inb_S1x1536_S1x256_0_768)
abbrev b1c3 := View.ld B.b1 (Rect.unit ![0, 768] ![1, 256] inb_S1x1536_S1x256_0_768)
/-- Rows 768 to 1023 of the second layer's weights. -/
abbrev w2r3 := View.ld B.w2 (Rect.unit ![768, 0] ![256, 384] inb_S1536x384_S256x384_768_0)

/-- Columns 1024 to 1279 of the first layer's weights, scales and bias. -/
abbrev w1c4 := View.ld B.w1 (Rect.unit ![0, 1024] ![384, 256] inb_S384x1536_S384x256_0_1024)
abbrev s1c4 := View.ld B.s1 (Rect.unit ![0, 1024] ![1, 256] inb_S1x1536_S1x256_0_1024)
abbrev b1c4 := View.ld B.b1 (Rect.unit ![0, 1024] ![1, 256] inb_S1x1536_S1x256_0_1024)
/-- Rows 1024 to 1279 of the second layer's weights. -/
abbrev w2r4 := View.ld B.w2 (Rect.unit ![1024, 0] ![256, 384] inb_S1536x384_S256x384_1024_0)

/-- Columns 1280 to 1535 of the first layer's weights, scales and bias. -/
abbrev w1c5 := View.ld B.w1 (Rect.unit ![0, 1280] ![384, 256] inb_S384x1536_S384x256_0_1280)
abbrev s1c5 := View.ld B.s1 (Rect.unit ![0, 1280] ![1, 256] inb_S1x1536_S1x256_0_1280)
abbrev b1c5 := View.ld B.b1 (Rect.unit ![0, 1280] ![1, 256] inb_S1x1536_S1x256_0_1280)
/-- Rows 1280 to 1535 of the second layer's weights. -/
abbrev w2r5 := View.ld B.w2 (Rect.unit ![1280, 0] ![256, 384] inb_S1536x384_S256x384_1280_0)

/-- Tile 0 of the hidden layer: after the gelu, and as it is stored. -/
def kT0 : FVec Ideal S480x256 .f32 := k0_pay35 (kM i B) (kQ i B) (w1c0 B) (s1c0 B) (b1c0 B)
def kL0 : FVec Ideal S480x256 .f32 := k0_pay36 (kM i B) (kQ i B) (w1c0 B) (s1c0 B) (b1c0 B)

/-- Tile 1 of the hidden layer: after the gelu, and as it is stored. -/
def kT1 : FVec Ideal S480x256 .f32 := k0_pay37 (kM i B) (k0_pay33 (kQ i B)) (w1c1 B) (s1c1 B) (b1c1 B)
def kL1 : FVec Ideal S480x256 .f32 := k0_pay38 (kM i B) (k0_pay33 (kQ i B)) (w1c1 B) (s1c1 B) (b1c1 B)

/-- Tile 2 of the hidden layer: after the gelu, and as it is stored. -/
def kT2 : FVec Ideal S480x256 .f32 := k0_pay42 (k0_pay40 (kM i B) (k0_pay33 (kQ i B)) (w1c2 B)) (k0_pay41 (s1c2 B)) (b1c2 B)
def kL2 : FVec Ideal S480x256 .f32 := k0_pay43 (k0_pay40 (kM i B) (k0_pay33 (kQ i B)) (w1c2 B)) (k0_pay41 (s1c2 B)) (b1c2 B)

/-- Tile 3 of the hidden layer: after the gelu, and as it is stored. -/
def kT3 : FVec Ideal S480x256 .f32 := k0_pay48 (k0_pay46 (kM i B) (k0_pay33 (kQ i B)) (w1c3 B) (s1c3 B) (b1c3 B)) (k0_pay47 (kM i B) (k0_pay33 (kQ i B)) (w1c3 B) (s1c3 B) (b1c3 B))
def kL3 : FVec Ideal S480x256 .f32 := k0_pay49 (k0_pay46 (kM i B) (k0_pay33 (kQ i B)) (w1c3 B) (s1c3 B) (b1c3 B)) (k0_pay47 (kM i B) (k0_pay33 (kQ i B)) (w1c3 B) (s1c3 B) (b1c3 B))

/-- Tile 4 of the hidden layer: after the gelu, and as it is stored. -/
def kT4 : FVec Ideal S480x256 .f32 := k0_pay50 (kM i B) (k0_pay33 (kQ i B)) (w1c4 B) (s1c4 B) (b1c4 B)
def kL4 : FVec Ideal S480x256 .f32 := k0_pay51 (kM i B) (k0_pay33 (kQ i B)) (w1c4 B) (s1c4 B) (b1c4 B)

/-- Tile 5 of the hidden layer: after the gelu, and as it is stored. -/
def kT5 : FVec Ideal S480x256 .f32 := k0_pay54 (kM i B) (k0_pay53 (k0_pay33 (kQ i B)) (w1c5 B)) (s1c5 B) (b1c5 B)
def kL5 : FVec Ideal S480x256 .f32 := k0_pay55 (kM i B) (k0_pay53 (k0_pay33 (kQ i B)) (w1c5 B)) (s1c5 B) (b1c5 B)

/-- The running maxima of the hidden layer's absolute values, after two, three and five tiles. -/
def kA2 : FVec Ideal S480x128 .f32 := k0_pay39 (kM i B) (k0_pay33 (kQ i B)) k0_pay34 (kT0 i B) (w1c1 B) (s1c1 B) (b1c1 B)
def kA3 : FVec Ideal S480x128 .f32 := k0_pay44 (kA2 i B) (k0_pay40 (kM i B) (k0_pay33 (kQ i B)) (w1c2 B)) (k0_pay41 (s1c2 B)) (b1c2 B)
def kA5 : FVec Ideal S480x128 .f32 :=
  k0_pay52 (kM i B) (k0_pay33 (kQ i B)) (kA3 i B) (k0_pay46 (kM i B) (k0_pay33 (kQ i B)) (w1c3 B) (s1c3 B) (b1c3 B)) (k0_pay47 (kM i B) (k0_pay33 (kQ i B)) (w1c3 B) (s1c3 B) (b1c3 B))
    (w1c4 B) (s1c4 B) (b1c4 B)

/-- The hidden layer's scales. -/
def kH : FVec Ideal S480x1 .f32 := k0_pay56 (kM i B) (kA5 i B) (k0_pay53 (k0_pay33 (kQ i B)) (w1c5 B)) (s1c5 B) (b1c5 B)

/-- The block of hidden scales after the point's ten columns are put into `cur`. -/
def kHs (cur : FVec Ideal S1x48x60 .f32) : FVec Ideal S1x48x60 .f32 :=
  k0_pay61 lon (first i) (kH i B)
    (k0_pay60 lon (first i) (kH i B) (k0_pay57 cur) (k0_pay58 lon (first i))
      (k0_pay59 (kM i B) (kA5 i B) (k0_pay53 (k0_pay33 (kQ i B)) (w1c5 B)) (s1c5 B) (b1c5 B)))
    (Scalar.addi (first i) 8#32)

/-- The codes of tile 0. -/
def kHc0 : IVec S1x10x48x256 8 := k0_pay64 (kH i B) (kL0 i B)

/-- The codes of tile 1. -/
def kHc1 : IVec S1x10x48x256 8 := k0_pay68 (k0_pay66 (kH i B) (kL1 i B))

/-- The codes of tile 2. -/
def kHc2 : IVec S1x10x48x256 8 := k0_pay70 (k0_pay62 (kH i B)) (kL2 i B)

/-- The codes of tile 3. -/
def kHc3 : IVec S1x10x48x256 8 := k0_pay74 (k0_pay72 (k0_pay62 (kH i B)) (kL3 i B)) (FloatOps.ofBits FTy.f32 3271426048#32)

/-- The codes of tile 4. -/
def kHc4 : IVec S1x10x48x256 8 := k0_pay76 (k0_pay62 (kH i B)) (kL4 i B)

/-- The codes of tile 5. -/
def kHc5 : IVec S1x10x48x256 8 := k0_pay81 (k0_pay78 (k0_pay62 (kH i B)) (kL5 i B)) (FloatOps.ofBits FTy.f32 1123942400#32) k0_pay79

/-- The second layer's products over one, three and five tiles. -/
def kF1 : FVec Ideal S480x384 .f32 := k0_pay65 (kH i B) (kL0 i B) (w2r0 B)
def kF3 : FVec Ideal S480x384 .f32 := k0_pay71 (k0_pay62 (kH i B)) (kF1 i B) (k0_pay66 (kH i B) (kL1 i B)) (w2r1 B) (kL2 i B) (w2r2 B)
def kF5 : FVec Ideal S480x384 .f32 := k0_pay77 (k0_pay62 (kH i B)) (kF3 i B) (k0_pay72 (k0_pay62 (kH i B)) (kL3 i B)) (FloatOps.ofBits FTy.f32 3271426048#32) (w2r3 B) (kL4 i B) (w2r4 B)

/-- The centred second layer. -/
def kF : FVec Ideal S480x384 .f32 := k0_pay84 (kH i B) (kF5 i B) (k0_pay78 (k0_pay62 (kH i B)) (kL5 i B)) (FloatOps.ofBits FTy.f32 1123942400#32) k0_pay79 (w2r5 B) B.s2 B.b2

/-- Its rows' variances plus epsilon. -/
def kV : FVec Ideal S480x1 .f32 := k0_pay85 (kH i B) (kF5 i B) (k0_pay78 (k0_pay62 (kH i B)) (kL5 i B)) (FloatOps.ofBits FTy.f32 1123942400#32) k0_pay79 (w2r5 B) B.s2 B.b2

/-- The block of the result. -/
def kY : FVec Ideal S1x10x48x384 .bf16 := k0_pay1 (kX i B) (k0_pay82 B.g2) (k0_pay83 B.be2) (kF i B) (kV i B)

end Cert.KernelIdeal.Body
-- ==== Proof.Outs.lean ====
module

public import proofs.«01_k».proof.Proof.Body
/-! # What each grid point leaves in the result blocks and in the weights' scratch

The first point stores the weights and clears the block of scales; the first point of a later row clears the block of scales;
every other point adds to it. In each case the blocks are the functions of `Body` at the blocks the point reads. -/
set_option maxRecDepth 16384
@[expose] public noncomputable section
namespace Cert.KernelIdeal.Out
open Cert.KernelIdeal Cert.KernelIdeal.Gen Cert.KernelIdeal.Body Idealize.ShloMosaic Idealize.ShloMosaic.TcCoe Idealize.SL.Sem
variable (m : (ℓ : Loc nD τ sig) → Buf (Elt Ideal) ℓ)

/-- Reading back the rectangle stored last. -/
theorem readCov_self {sig : RefSig} {κ : Kind} {sp : Space} {s : Shape} {e : EltTy} {Val : EltTy → Type} [∀ e, Nonempty (Val e)]
    (v : View sig κ sp s e) (r : Rect s) (w : r.shape.Idx → Val e) (L : List (View.Piece Val s e)) :
    v.readCov ((⟨r, w⟩ : View.Piece Val s e) :: L) r.toLoadRect = w := by
  rw [View.readCov_eq_canon']
  funext j
  exact View.canon_cons_emb r w L j

/-- `B` holds the blocks grid point `t` reads. -/
structure Reads (c : Dev nD) (t : Fin cfg0.N) (B : Blk) : Prop where
  oc : iblk m c 0 t = B.oc
  os : iblk m c 1 t = B.os
  x : iblk m c 2 t = B.x
  sp : iblk m c 6 t = B.sp
  bp : iblk m c 7 t = B.bp
  s1 : iblk m c 8 t = B.s1
  b1 : iblk m c 9 t = B.b1
  s2 : iblk m c 10 t = B.s2
  b2 : iblk m c 11 t = B.b2
  g1 : iblk m c 12 t = B.g1
  be1 : iblk m c 13 t = B.be1
  g2 : iblk m c 14 t = B.g2
  be2 : iblk m c 15 t = B.be2

/-! The scratch for the hidden layer is stored in six column tiles and read back tile by tile. -/

theorem rd0 (L0 L1 L2 L3 L4 L5 : FVec Ideal S480x256 .f32) :
    View.readCov (Val := Elt Ideal) (View.whole cc0_scratch3) [⟨Rect.unit ![0, 1280] ![480, 256] inb_S480x1536_S480x256_0_1280, L5⟩, ⟨Rect.unit ![0, 1024] ![480, 256] inb_S480x1536_S480x256_0_1024, L4⟩, ⟨Rect.unit ![0, 768] ![480, 256] inb_S480x1536_S480x256_0_768, L3⟩, ⟨Rect.unit ![0, 512] ![480, 256] inb_S480x1536_S480x256_0_512, L2⟩, ⟨Rect.unit ![0, 256] ![480, 256] inb_S480x1536_S480x256_0_256, L1⟩, ⟨Rect.unit ![0, 0] ![480, 256] inb_S480x1536_S480x256_0_0, L0⟩]
      (Rect.unit ![0, 0] ![480, 256] inb_S480x1536_S480x256_0_0).toLoadRect = L0 :=
  (View.readCov_skip _ _ _ _ _ (by decide +kernel)).trans ((View.readCov_skip _ _ _ _ _ (by decide +kernel)).trans ((View.readCov_skip _ _ _ _ _ (by decide +kernel)).trans ((View.readCov_skip _ _ _ _ _ (by decide +kernel)).trans ((View.readCov_skip _ _ _ _ _ (by decide +kernel)).trans (readCov_self _ _ _ _)))))

theorem rd1 (L0 L1 L2 L3 L4 L5 : FVec Ideal S480x256 .f32) :
    View.readCov (Val := Elt Ideal) (View.whole cc0_scratch3) [⟨Rect.unit ![0, 1280] ![480, 256] inb_S480x1536_S480x256_0_1280, L5⟩, ⟨Rect.unit ![0, 1024] ![480, 256] inb_S480x1536_S480x256_0_1024, L4⟩, ⟨Rect.unit ![0, 768] ![480, 256] inb_S480x1536_S480x256_0_768, L3⟩, ⟨Rect.unit ![0, 512] ![480, 256] inb_S480x1536_S480x256_0_512, L2⟩, ⟨Rect.unit ![0, 256] ![480, 256] inb_S480x1536_S480x256_0_256, L1⟩, ⟨Rect.unit ![0, 0] ![480, 256] inb_S480x1536_S480x256_0_0, L0⟩]
      (Rect.unit ![0, 256] ![480, 256] inb_S480x1536_S480x256_0_256).toLoadRect = L1 :=
  (View.readCov_skip _ _ _ _ _ (by decide +kernel)).trans ((View.readCov_skip _ _ _ _ _ (by decide +kernel)).trans ((View.readCov_skip _ _ _ _ _ (by decide +kernel)).trans ((View.readCov_skip _ _ _ _ _ (by decide +kernel)).trans (readCov_self _ _ _ _))))

theorem rd2 (L0 L1 L2 L3 L4 L5 : FVec Ideal S480x256 .f32) :
    View.readCov (Val := Elt Ideal) (View.whole cc0_scratch3) [⟨Rect.unit ![0, 1280] ![480, 256] inb_S480x1536_S480x256_0_1280, L5⟩, ⟨Rect.unit ![0, 1024] ![480, 256] inb_S480x1536_S480x256_0_1024, L4⟩, ⟨Rect.unit ![0, 768] ![480, 256] inb_S480x1536_S480x256_0_768, L3⟩, ⟨Rect.unit ![0, 512] ![480, 256] inb_S480x1536_S480x256_0_512, L2⟩, ⟨Rect.unit ![0, 256] ![480, 256] inb_S480x1536_S480x256_0_256, L1⟩, ⟨Rect.unit ![0, 0] ![480, 256] inb_S480x1536_S480x256_0_0, L0⟩]
      (Rect.unit ![0, 512] ![480, 256] inb_S480x1536_S480x256_0_512).toLoadRect = L2 :=
  (View.readCov_skip _ _ _ _ _ (by decide +kernel)).trans ((View.readCov_skip _ _ _ _ _ (by decide +kernel)).trans ((View.readCov_skip _ _ _ _ _ (by decide +kernel)).trans (readCov_self _ _ _ _)))

theorem rd3 (L0 L1 L2 L3 L4 L5 : FVec Ideal S480x256 .f32) :
    View.readCov (Val := Elt Ideal) (View.whole cc0_scratch3) [⟨Rect.unit ![0, 1280] ![480, 256] inb_S480x1536_S480x256_0_1280, L5⟩, ⟨Rect.unit ![0, 1024] ![480, 256] inb_S480x1536_S480x256_0_1024, L4⟩, ⟨Rect.unit ![0, 768] ![480, 256] inb_S480x1536_S480x256_0_768, L3⟩, ⟨Rect.unit ![0, 512] ![480, 256] inb_S480x1536_S480x256_0_512, L2⟩, ⟨Rect.unit ![0, 256] ![480, 256] inb_S480x1536_S480x256_0_256, L1⟩, ⟨Rect.unit ![0, 0] ![480, 256] inb_S480x1536_S480x256_0_0, L0⟩]
      (Rect.unit ![0, 768] ![480, 256] inb_S480x1536_S480x256_0_768).toLoadRect = L3 :=
  (View.readCov_skip _ _ _ _ _ (by decide +kernel)).trans ((View.readCov_skip _ _ _ _ _ (by decide +kernel)).trans (readCov_self _ _ _ _))

theorem rd4 (L0 L1 L2 L3 L4 L5 : FVec Ideal S480x256 .f32) :
    View.readCov (Val := Elt Ideal) (View.whole cc0_scratch3) [⟨Rect.unit ![0, 1280] ![480, 256] inb_S480x1536_S480x256_0_1280, L5⟩, ⟨Rect.unit ![0, 1024] ![480, 256] inb_S480x1536_S480x256_0_1024, L4⟩, ⟨Rect.unit ![0, 768] ![480, 256] inb_S480x1536_S480x256_0_768, L3⟩, ⟨Rect.unit ![0, 512] ![480, 256] inb_S480x1536_S480x256_0_512, L2⟩, ⟨Rect.unit ![0, 256] ![480, 256] inb_S480x1536_S480x256_0_256, L1⟩, ⟨Rect.unit ![0, 0] ![480, 256] inb_S480x1536_S480x256_0_0, L0⟩]
      (Rect.unit ![0, 1024] ![480, 256] inb_S480x1536_S480x256_0_1024).toLoadRect = L4 :=
  (View.readCov_skip _ _ _ _ _ (by decide +kernel)).trans (readCov_self _ _ _ _)

theorem rd5 (L0 L1 L2 L3 L4 L5 : FVec Ideal S480x256 .f32) :
    View.readCov (Val := Elt Ideal) (View.whole cc0_scratch3) [⟨Rect.unit ![0, 1280] ![480, 256] inb_S480x1536_S480x256_0_1280, L5⟩, ⟨Rect.unit ![0, 1024] ![480, 256] inb_S480x1536_S480x256_0_1024, L4⟩, ⟨Rect.unit ![0, 768] ![480, 256] inb_S480x1536_S480x256_0_768, L3⟩, ⟨Rect.unit ![0, 512] ![480, 256] inb_S480x1536_S480x256_0_512, L2⟩, ⟨Rect.unit ![0, 256] ![480, 256] inb_S480x1536_S480x256_0_256, L1⟩, ⟨Rect.unit ![0, 0] ![480, 256] inb_S480x1536_S480x256_0_0, L0⟩]
      (Rect.unit ![0, 1280] ![480, 256] inb_S480x1536_S480x256_0_1280).toLoadRect = L5 :=
  readCov_self _ _ _ _

/-! The two layers' weights are stored whole at the first point and read back by tiles. -/

theorem fa0 (W : FVec Ideal S384x1536 .bf16) :
    View.readCov (Val := Elt Ideal) (View.whole cc0_scratch1) [⟨Rect.unit ![0, 0] ![384, 1536] inb_S384x1536_S384x1536_0_0, W⟩]
      (Rect.unit ![0, 0] ![384, 256] inb_S384x1536_S384x256_0_0).toLoadRect =
    View.ld (Val := Elt Ideal) (S := S384x1536) (e' := .bf16) W (Rect.unit ![0, 0] ![384, 256] inb_S384x1536_S384x256_0_0) :=
  View.readCov_fill (s := S384x1536) (e := .bf16) (Val := Elt Ideal) (View.whole cc0_scratch1) (off := ![0, 0]) inb_S384x1536_S384x1536_0_0 W []
    (Rect.unit ![0, 0] ![384, 256] inb_S384x1536_S384x256_0_0) (by decide)

theorem fb0 (W : FVec Ideal S1536x384 .bf16) :
    View.readCov (Val := Elt Ideal) (View.whole cc0_scratch2) [⟨Rect.unit ![0, 0] ![1536, 384] inb_S1536x384_S1536x384_0_0, W⟩]
      (Rect.unit ![0, 0] ![256, 384] inb_S1536x384_S256x384_0_0).toLoadRect =
    View.ld (Val := Elt Ideal) (S := S1536x384) (e' := .bf16) W (Rect.unit ![0, 0] ![256, 384] inb_S1536x384_S256x384_0_0) :=
  View.readCov_fill (s := S1536x384) (e := .bf16) (Val := Elt Ideal) (View.whole cc0_scratch2) (off := ![0, 0]) inb_S1536x384_S1536x384_0_0 W []
    (Rect.unit ![0, 0] ![256, 384] inb_S1536x384_S256x384_0_0) (by decide)

theorem fa1 (W : FVec Ideal S384x1536 .bf16) :
    View.readCov (Val := Elt Ideal) (View.whole cc0_scratch1) [⟨Rect.unit ![0, 0] ![384, 1536] inb_S384x1536_S384x1536_0_0, W⟩]
      (Rect.unit ![0, 256] ![384, 256] inb_S384x1536_S384x256_0_256).toLoadRect =
    View.ld (Val := Elt Ideal) (S := S384x1536) (e' := .bf16) W (Rect.unit ![0, 256] ![384, 256] inb_S384x1536_S384x256_0_256) :=
  View.readCov_fill (s := S384x1536) (e := .bf16) (Val := Elt Ideal) (View.whole cc0_scratch1) (off := ![0, 0]) inb_S384x1536_S384x1536_0_0 W []
    (Rect.unit ![0, 256] ![384, 256] inb_S384x1536_S384x256_0_256) (by decide)

theorem fb1 (W : FVec Ideal S1536x384 .bf16) :
    View.readCov (Val := Elt Ideal) (View.whole cc0_scratch2) [⟨Rect.unit ![0, 0] ![1536, 384] inb_S1536x384_S1536x384_0_0, W⟩]
      (Rect.unit ![256, 0] ![256, 384] inb_S1536x384_S256x384_256_0).toLoadRect =
    View.ld (Val := Elt Ideal) (S := S1536x384) (e' := .bf16) W (Rect.unit ![256, 0] ![256, 384] inb_S1536x384_S256x384_256_0) :=
  View.readCov_fill (s := S1536x384) (e := .bf16) (Val := Elt Ideal) (View.whole cc0_scratch2) (off := ![0, 0]) inb_S1536x384_S1536x384_0_0 W []
    (Rect.unit ![256, 0] ![256, 384] inb_S1536x384_S256x384_256_0) (by decide)

theorem fa2 (W : FVec Ideal S384x1536 .bf16) :
    View.readCov (Val := Elt Ideal) (View.whole cc0_scratch1) [⟨Rect.unit ![0, 0] ![384, 1536] inb_S384x1536_S384x1536_0_0, W⟩]
      (Rect.unit ![0, 512] ![384, 256] inb_S384x1536_S384x256_0_512).toLoadRect =
    View.ld (Val := Elt Ideal) (S := S384x1536) (e' := .bf16) W (Rect.unit ![0, 512] ![384, 256] inb_S384x1536_S384x256_0_512) :=
  View.readCov_fill (s := S384x1536) (e := .bf16) (Val := Elt Ideal) (View.whole cc0_scratch1) (off := ![0, 0]) inb_S384x1536_S384x1536_0_0 W []
    (Rect.unit ![0, 512] ![384, 256] inb_S384x1536_S384x256_0_512) (by decide)

theorem fb2 (W : FVec Ideal S1536x384 .bf16) :
    View.readCov (Val := Elt Ideal) (View.whole cc0_scratch2) [⟨Rect.unit ![0, 0] ![1536, 384] inb_S1536x384_S1536x384_0_0, W⟩]
      (Rect.unit ![512, 0] ![256, 384] inb_S1536x384_S256x384_512_0).toLoadRect =
    View.ld (Val := Elt Ideal) (S := S1536x384) (e' := .bf16) W (Rect.unit ![512, 0] ![256, 384] inb_S1536x384_S256x384_512_0) :=
  View.readCov_fill (s := S1536x384) (e := .bf16) (Val := Elt Ideal) (View.whole cc0_scratch2) (off := ![0, 0]) inb_S1536x384_S1536x384_0_0 W []
    (Rect.unit ![512, 0] ![256, 384] inb_S1536x384_S256x384_512_0) (by decide)

theorem fa3 (W : FVec Ideal S384x1536 .bf16) :
    View.readCov (Val := Elt Ideal) (View.whole cc0_scratch1) [⟨Rect.unit ![0, 0] ![384, 1536] inb_S384x1536_S384x1536_0_0, W⟩]
      (Rect.unit ![0, 768] ![384, 256] inb_S384x1536_S384x256_0_768).toLoadRect =
    View.ld (Val := Elt Ideal) (S := S384x1536) (e' := .bf16) W (Rect.unit ![0, 768] ![384, 256] inb_S384x1536_S384x256_0_768) :=
  View.readCov_fill (s := S384x1536) (e := .bf16) (Val := Elt Ideal) (View.whole cc0_scratch1) (off := ![0, 0]) inb_S384x1536_S384x1536_0_0 W []
    (Rect.unit ![0, 768] ![384, 256] inb_S384x1536_S384x256_0_768) (by decide)

theorem fb3 (W : FVec Ideal S1536x384 .bf16) :
    View.readCov (Val := Elt Ideal) (View.whole cc0_scratch2) [⟨Rect.unit ![0, 0] ![1536, 384] inb_S1536x384_S1536x384_0_0, W⟩]
      (Rect.unit ![768, 0] ![256, 384] inb_S1536x384_S256x384_768_0).toLoadRect =
    View.ld (Val := Elt Ideal) (S := S1536x384) (e' := .bf16) W (Rect.unit ![768, 0] ![256, 384] inb_S1536x384_S256x384_768_0) :=
  View.readCov_fill (s := S1536x384) (e := .bf16) (Val := Elt Ideal) (View.whole cc0_scratch2) (off := ![0, 0]) inb_S1536x384_S1536x384_0_0 W []
    (Rect.unit ![768, 0] ![256, 384] inb_S1536x384_S256x384_768_0) (by decide)

theorem fa4 (W : FVec Ideal S384x1536 .bf16) :
    View.readCov (Val := Elt Ideal) (View.whole cc0_scratch1) [⟨Rect.unit ![0, 0] ![384, 1536] inb_S384x1536_S384x1536_0_0, W⟩]
      (Rect.unit ![0, 1024] ![384, 256] inb_S384x1536_S384x256_0_1024).toLoadRect =
    View.ld (Val := Elt Ideal) (S := S384x1536) (e' := .bf16) W (Rect.unit ![0, 1024] ![384, 256] inb_S384x1536_S384x256_0_1024) :=
  View.readCov_fill (s := S384x1536) (e := .bf16) (Val := Elt Ideal) (View.whole cc0_scratch1) (off := ![0, 0]) inb_S384x1536_S384x1536_0_0 W []
    (Rect.unit ![0, 1024] ![384, 256] inb_S384x1536_S384x256_0_1024) (by decide)

theorem fb4 (W : FVec Ideal S1536x384 .bf16) :
    View.readCov (Val := Elt Ideal) (View.whole cc0_scratch2) [⟨Rect.unit ![0, 0] ![1536, 384] inb_S1536x384_S1536x384_0_0, W⟩]
      (Rect.unit ![1024, 0] ![256, 384] inb_S1536x384_S256x384_1024_0).toLoadRect =
    View.ld (Val := Elt Ideal) (S := S1536x384) (e' := .bf16) W (Rect.unit ![1024, 0] ![256, 384] inb_S1536x384_S256x384_1024_0) :=
  View.readCov_fill (s := S1536x384) (e := .bf16) (Val := Elt Ideal) (View.whole cc0_scratch2) (off := ![0, 0]) inb_S1536x384_S1536x384_0_0 W []
    (Rect.unit ![1024, 0] ![256, 384] inb_S1536x384_S256x384_1024_0) (by decide)

theorem fa5 (W : FVec Ideal S384x1536 .bf16) :
    View.readCov (Val := Elt Ideal) (View.whole cc0_scratch1) [⟨Rect.unit ![0, 0] ![384, 1536] inb_S384x1536_S384x1536_0_0, W⟩]
      (Rect.unit ![0, 1280] ![384, 256] inb_S384x1536_S384x256_0_1280).toLoadRect =
    View.ld (Val := Elt Ideal) (S := S384x1536) (e' := .bf16) W (Rect.unit ![0, 1280] ![384, 256] inb_S384x1536_S384x256_0_1280) :=
  View.readCov_fill (s := S384x1536) (e := .bf16) (Val := Elt Ideal) (View.whole cc0_scratch1) (off := ![0, 0]) inb_S384x1536_S384x1536_0_0 W []
    (Rect.unit ![0, 1280] ![384, 256] inb_S384x1536_S384x256_0_1280) (by decide)

theorem fb5 (W : FVec Ideal S1536x384 .bf16) :
    View.readCov (Val := Elt Ideal) (View.whole cc0_scratch2) [⟨Rect.unit ![0, 0] ![1536, 384] inb_S1536x384_S1536x384_0_0, W⟩]
      (Rect.unit ![1280, 0] ![256, 384] inb_S1536x384_S256x384_1280_0).toLoadRect =
    View.ld (Val := Elt Ideal) (S := S1536x384) (e' := .bf16) W (Rect.unit ![1280, 0] ![256, 384] inb_S1536x384_S256x384_1280_0) :=
  View.readCov_fill (s := S1536x384) (e := .bf16) (Val := Elt Ideal) (View.whole cc0_scratch2) (off := ![0, 0]) inb_S1536x384_S1536x384_0_0 W []
    (Rect.unit ![1280, 0] ![256, 384] inb_S1536x384_S256x384_1280_0) (by decide)

set_option maxHeartbeats 1000000 in
/-- The result's block at the first point, whose weights are the ones it stores. -/
theorem y_A (c : Dev nD) (t : Fin cfg0.N) (h0 : t.val % 48 = 0) (h1 : t.val % 6 = 0) (B : Blk) (R : Reads m c t B)
    (hP : k0_pay2 (iblk m c 3 t) = B.wp) (hW1 : k0_pay3 (iblk m c 4 t) = B.w1) (hW2 : k0_pay4 (iblk m c 5 t) = B.w2) :
    (outsAt0 m c t.val t.isLt).1 = kY (grid0.coords t) B := by
  rw [outsAt0_A m c t h0 h1]
  dsimp only
  frame_out
  simp only [read_unread_whole, hP, hW1, hW2, R.oc, R.os, R.x, R.sp, R.bp, R.s1, R.b1, R.s2, R.b2, R.g1, R.be1, R.g2, R.be2]
  generalize hkC : kC (grid0.coords t) B = XkC
  have ekC := hkC
  unfold kC at ekC
  simp only [ekC]
  generalize hkS : kS (grid0.coords t) B = XkS
  have ekS := hkS
  unfold kS at ekS
  simp only [ekS]
  generalize hkM : kM (grid0.coords t) B = XkM
  have ekM := hkM
  unfold kM at ekM
  simp only [hkC, hkS] at ekM
  simp only [ekM]
  generalize hkQ : kQ (grid0.coords t) B = XkQ
  have ekQ := hkQ
  unfold kQ at ekQ
  simp only [hkC, hkS] at ekQ
  simp only [ekQ]
  rw [fa0 B.w1, fa1 B.w1, fa2 B.w1, fa3 B.w1, fa4 B.w1, fa5 B.w1]
  rw [fb0 B.w2, fb1 B.w2, fb2 B.w2, fb3 B.w2, fb4 B.w2, fb5 B.w2]
  generalize hkL0 : kL0 (grid0.coords t) B = XkL0
  have ekL0 := hkL0
  unfold kL0 at ekL0
  simp only [hkM, hkQ] at ekL0
  simp only [ekL0]
  generalize hkL1 : kL1 (grid0.coords t) B = XkL1
  have ekL1 := hkL1
  unfold kL1 at ekL1
  simp only [hkM, hkQ] at ekL1
  simp only [ekL1]
  generalize hkL2 : kL2 (grid0.coords t) B = XkL2
  have ekL2 := hkL2
  unfold kL2 at ekL2
  simp only [hkM, hkQ] at ekL2
  simp only [ekL2]
  generalize hkL3 : kL3 (grid0.coords t) B = XkL3
  have ekL3 := hkL3
  unfold kL3 at ekL3
  simp only [hkM, hkQ] at ekL3
  simp only [ekL3]
  generalize hkL4 : kL4 (grid0.coords t) B = XkL4
  have ekL4 := hkL4
  unfold kL4 at ekL4
  simp only [hkM, hkQ] at ekL4
  simp only [ekL4]
  generalize hkL5 : kL5 (grid0.coords t) B = XkL5
  have ekL5 := hkL5
  unfold kL5 at ekL5
  simp only [hkM, hkQ] at ekL5
  simp only [ekL5]
  have r0 := rd0 XkL0 XkL1 XkL2 XkL3 XkL4 XkL5
  simp only [r0]
  have r1 := rd1 XkL0 XkL1 XkL2 XkL3 XkL4 XkL5
  simp only [r1]
  have r2 := rd2 XkL0 XkL1 XkL2 XkL3 XkL4 XkL5
  simp only [r2]
  have r3 := rd3 XkL0 XkL1 XkL2 XkL3 XkL4 XkL5
  simp only [r3]
  have r4 := rd4 XkL0 XkL1 XkL2 XkL3 XkL4 XkL5
  simp only [r4]
  have r5 := rd5 XkL0 XkL1 XkL2 XkL3 XkL4 XkL5
  simp only [r5]
  unfold kY kX kF kV kF5 kF3 kF1 kH kA5 kA3 kA2 kT0
  simp only [hkC, hkS, hkM, hkQ, hkL0, hkL1, hkL2, hkL3, hkL4, hkL5]

set_option maxHeartbeats 1000000 in
/-- The hidden codes' block at the first point, whose weights are the ones it stores. -/
theorem hc_A (c : Dev nD) (t : Fin cfg0.N) (h0 : t.val % 48 = 0) (h1 : t.val % 6 = 0) (B : Blk) (R : Reads m c t B)
    (hP : k0_pay2 (iblk m c 3 t) = B.wp) (hW1 : k0_pay3 (iblk m c 4 t) = B.w1) (hW2 : k0_pay4 (iblk m c 5 t) = B.w2) :
    (outsAt0 m c t.val t.isLt).2.2.2.1 = View.canon (Val := Elt Ideal) (s := S1x10x48x1536) (e := .i8) [
      ⟨Rect.unit ![0, 0, 0, 1280] ![1, 10, 48, 256] inb_S1x10x48x1536_S1x10x48x256_0_0_0_1280, kHc5 (grid0.coords t) B⟩,
      ⟨Rect.unit ![0, 0, 0, 1024] ![1, 10, 48, 256] inb_S1x10x48x1536_S1x10x48x256_0_0_0_1024, kHc4 (grid0.coords t) B⟩,
      ⟨Rect.unit ![0, 0, 0, 768] ![1, 10, 48, 256] inb_S1x10x48x1536_S1x10x48x256_0_0_0_768, kHc3 (grid0.coords t) B⟩,
      ⟨Rect.unit ![0, 0, 0, 512] ![1, 10, 48, 256] inb_S1x10x48x1536_S1x10x48x256_0_0_0_512, kHc2 (grid0.coords t) B⟩,
      ⟨Rect.unit ![0, 0, 0, 256] ![1, 10, 48, 256] inb_S1x10x48x1536_S1x10x48x256_0_0_0_256, kHc1 (grid0.coords t) B⟩,
      ⟨Rect.unit ![0, 0, 0, 0] ![1, 10, 48, 256] inb_S1x10x48x1536_S1x10x48x256_0_0_0_0, kHc0 (grid0.coords t) B⟩] := by
  rw [outsAt0_A m c t h0 h1]
  dsimp only
  frame_out
  simp only [read_unread_whole, hP, hW1, hW2, R.oc, R.os, R.x, R.sp, R.bp, R.s1, R.b1, R.s2, R.b2, R.g1, R.be1, R.g2, R.be2]
  generalize hkC : kC (grid0.coords t) B = XkC
  have ekC := hkC
  unfold kC at ekC
  simp only [ekC]
  generalize hkS : kS (grid0.coords t) B = XkS
  have ekS := hkS
  unfold kS at ekS
  simp only [ekS]
  generalize hkM : kM (grid0.coords t) B = XkM
  have ekM := hkM
  unfold kM at ekM
  simp only [hkC, hkS] at ekM
  simp only [ekM]
  generalize hkQ : kQ (grid0.coords t) B = XkQ
  have ekQ := hkQ
  unfold kQ at ekQ
  simp only [hkC, hkS] at ekQ
  simp only [ekQ]
  rw [fa0 B.w1, fa1 B.w1, fa2 B.w1, fa3 B.w1, fa4 B.w1, fa5 B.w1]
  generalize hkL0 : kL0 (grid0.coords t) B = XkL0
  have ekL0 := hkL0
  unfold kL0 at ekL0
  simp only [hkM, hkQ] at ekL0
  simp only [ekL0]
  generalize hkL1 : kL1 (grid0.coords t) B = XkL1
  have ekL1 := hkL1
  unfold kL1 at ekL1
  simp only [hkM, hkQ] at ekL1
  simp only [ekL1]
  generalize hkL2 : kL2 (grid0.coords t) B = XkL2
  have ekL2 := hkL2
  unfold kL2 at ekL2
  simp only [hkM, hkQ] at ekL2
  simp only [ekL2]
  generalize hkL3 : kL3 (grid0.coords t) B = XkL3
  have ekL3 := hkL3
  unfold kL3 at ekL3
  simp only [hkM, hkQ] at ekL3
  simp only [ekL3]
  generalize hkL4 : kL4 (grid0.coords t) B = XkL4
  have ekL4 := hkL4
  unfold kL4 at ekL4
  simp only [hkM, hkQ] at ekL4
  simp only [ekL4]
  generalize hkL5 : kL5 (grid0.coords t) B = XkL5
  have ekL5 := hkL5
  unfold kL5 at ekL5
  simp only [hkM, hkQ] at ekL5
  simp only [ekL5]
  have r0 := rd0 XkL0 XkL1 XkL2 XkL3 XkL4 XkL5
  simp only [r0]
  have r1 := rd1 XkL0 XkL1 XkL2 XkL3 XkL4 XkL5
  simp only [r1]
  have r2 := rd2 XkL0 XkL1 XkL2 XkL3 XkL4 XkL5
  simp only [r2]
  have r3 := rd3 XkL0 XkL1 XkL2 XkL3 XkL4 XkL5
  simp only [r3]
  have r4 := rd4 XkL0 XkL1 XkL2 XkL3 XkL4 XkL5
  simp only [r4]
  have r5 := rd5 XkL0 XkL1 XkL2 XkL3 XkL4 XkL5
  simp only [r5]
  unfold kHc0 kHc1 kHc2 kHc3 kHc4 kHc5 kH kA5 kA3 kA2 kT0
  simp only [hkC, hkS, hkM, hkQ, hkL0, hkL1, hkL2, hkL3, hkL4, hkL5]

set_option maxHeartbeats 1000000 in
/-- The first codes' block at the first point, whose weights are the ones it stores. -/
theorem mc_A (c : Dev nD) (t : Fin cfg0.N) (h0 : t.val % 48 = 0) (h1 : t.val % 6 = 0) (B : Blk) (R : Reads m c t B)
    (hP : k0_pay2 (iblk m c 3 t) = B.wp) (hW1 : k0_pay3 (iblk m c 4 t) = B.w1) (hW2 : k0_pay4 (iblk m c 5 t) = B.w2) :
    (outsAt0 m c t.val t.isLt).2.1 = kMc (grid0.coords t) B := by
  rw [outsAt0_A m c t h0 h1]
  dsimp only
  frame_out
  simp only [read_unread_whole, hP, hW1, hW2, R.oc, R.os, R.x, R.sp, R.bp, R.s1, R.b1, R.s2, R.b2, R.g1, R.be1, R.g2, R.be2]
  rfl

set_option maxHeartbeats 1000000 in
/-- The first scales' block at the first point, whose weights are the ones it stores. -/
theorem ms_A (c : Dev nD) (t : Fin cfg0.N) (h0 : t.val % 48 = 0) (h1 : t.val % 6 = 0) (B : Blk) (R : Reads m c t B)
    (hP : k0_pay2 (iblk m c 3 t) = B.wp) (hW1 : k0_pay3 (iblk m c 4 t) = B.w1) (hW2 : k0_pay4 (iblk m c 5 t) = B.w2) :
    (outsAt0 m c t.val t.isLt).2.2.1 = kMs (grid0.coords t) B k0_pay5 := by
  rw [outsAt0_A m c t h0 h1]
  dsimp only
  frame_out
  simp only [read_unread_whole, hP, hW1, hW2, R.oc, R.os, R.x, R.sp, R.bp, R.s1, R.b1, R.s2, R.b2, R.g1, R.be1, R.g2, R.be2]
  rfl

set_option maxHeartbeats 1000000 in
/-- The hidden scales' block at the first point, whose weights are the ones it stores. -/
theorem hs_A (c : Dev nD) (t : Fin cfg0.N) (h0 : t.val % 48 = 0) (h1 : t.val % 6 = 0) (B : Blk) (R : Reads m c t B)
    (hP : k0_pay2 (iblk m c 3 t) = B.wp) (hW1 : k0_pay3 (iblk m c 4 t) = B.w1) (hW2 : k0_pay4 (iblk m c 5 t) = B.w2) :
    (outsAt0 m c t.val t.isLt).2.2.2.2.1 = kHs (grid0.coords t) B k0_pay6 := by
  rw [outsAt0_A m c t h0 h1]
  dsimp only
  frame_out
  simp only [read_unread_whole, hP, hW1, hW2, R.oc, R.os, R.x, R.sp, R.bp, R.s1, R.b1, R.s2, R.b2, R.g1, R.be1, R.g2, R.be2]
  generalize hkC : kC (grid0.coords t) B = XkC
  have ekC := hkC
  unfold kC at ekC
  simp only [ekC]
  generalize hkS : kS (grid0.coords t) B = XkS
  have ekS := hkS
  unfold kS at ekS
  simp only [ekS]
  generalize hkM : kM (grid0.coords t) B = XkM
  have ekM := hkM
  unfold kM at ekM
  simp only [hkC, hkS] at ekM
  simp only [ekM]
  generalize hkQ : kQ (grid0.coords t) B = XkQ
  have ekQ := hkQ
  unfold kQ at ekQ
  simp only [hkC, hkS] at ekQ
  simp only [ekQ]
  rw [fa0 B.w1, fa1 B.w1, fa2 B.w1, fa3 B.w1, fa4 B.w1, fa5 B.w1]
  unfold kHs kH kA5 kA3 kA2 kT0
  simp only [hkC, hkS, hkM, hkQ]

set_option maxHeartbeats 1000000 in
/-- The result's block at a point inside a row of points. -/
theorem y_B (c : Dev nD) (t : Fin cfg0.N) (h0 : ¬t.val % 48 = 0) (h1 : ¬t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).1 = kY (grid0.coords t) B := by
  rw [outsAt0_B m c t h0 h1]
  dsimp only
  frame_out
  simp only [read_unread_whole, hP, hW1, hW2, R.oc, R.os, R.x, R.sp, R.bp, R.s1, R.b1, R.s2, R.b2, R.g1, R.be1, R.g2, R.be2]
  generalize hkC : kC (grid0.coords t) B = XkC
  have ekC := hkC
  unfold kC at ekC
  simp only [ekC]
  generalize hkS : kS (grid0.coords t) B = XkS
  have ekS := hkS
  unfold kS at ekS
  simp only [ekS]
  generalize hkM : kM (grid0.coords t) B = XkM
  have ekM := hkM
  unfold kM at ekM
  simp only [hkC, hkS] at ekM
  simp only [ekM]
  generalize hkQ : kQ (grid0.coords t) B = XkQ
  have ekQ := hkQ
  unfold kQ at ekQ
  simp only [hkC, hkS] at ekQ
  simp only [ekQ]
  generalize hkL0 : kL0 (grid0.coords t) B = XkL0
  have ekL0 := hkL0
  unfold kL0 at ekL0
  simp only [hkM, hkQ] at ekL0
  simp only [ekL0]
  generalize hkL1 : kL1 (grid0.coords t) B = XkL1
  have ekL1 := hkL1
  unfold kL1 at ekL1
  simp only [hkM, hkQ] at ekL1
  simp only [ekL1]
  generalize hkL2 : kL2 (grid0.coords t) B = XkL2
  have ekL2 := hkL2
  unfold kL2 at ekL2
  simp only [hkM, hkQ] at ekL2
  simp only [ekL2]
  generalize hkL3 : kL3 (grid0.coords t) B = XkL3
  have ekL3 := hkL3
  unfold kL3 at ekL3
  simp only [hkM, hkQ] at ekL3
  simp only [ekL3]
  generalize hkL4 : kL4 (grid0.coords t) B = XkL4
  have ekL4 := hkL4
  unfold kL4 at ekL4
  simp only [hkM, hkQ] at ekL4
  simp only [ekL4]
  generalize hkL5 : kL5 (grid0.coords t) B = XkL5
  have ekL5 := hkL5
  unfold kL5 at ekL5
  simp only [hkM, hkQ] at ekL5
  simp only [ekL5]
  have r0 := rd0 XkL0 XkL1 XkL2 XkL3 XkL4 XkL5
  simp only [r0]
  have r1 := rd1 XkL0 XkL1 XkL2 XkL3 XkL4 XkL5
  simp only [r1]
  have r2 := rd2 XkL0 XkL1 XkL2 XkL3 XkL4 XkL5
  simp only [r2]
  have r3 := rd3 XkL0 XkL1 XkL2 XkL3 XkL4 XkL5
  simp only [r3]
  have r4 := rd4 XkL0 XkL1 XkL2 XkL3 XkL4 XkL5
  simp only [r4]
  have r5 := rd5 XkL0 XkL1 XkL2 XkL3 XkL4 XkL5
  simp only [r5]
  unfold kY kX kF kV kF5 kF3 kF1 kH kA5 kA3 kA2 kT0
  simp only [hkC, hkS, hkM, hkQ, hkL0, hkL1, hkL2, hkL3, hkL4, hkL5]

set_option maxHeartbeats 1000000 in
/-- The hidden codes' block at a point inside a row of points. -/
theorem hc_B (c : Dev nD) (t : Fin cfg0.N) (h0 : ¬t.val % 48 = 0) (h1 : ¬t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.2.2.1 = View.canon (Val := Elt Ideal) (s := S1x10x48x1536) (e := .i8) [
      ⟨Rect.unit ![0, 0, 0, 1280] ![1, 10, 48, 256] inb_S1x10x48x1536_S1x10x48x256_0_0_0_1280, kHc5 (grid0.coords t) B⟩,
      ⟨Rect.unit ![0, 0, 0, 1024] ![1, 10, 48, 256] inb_S1x10x48x1536_S1x10x48x256_0_0_0_1024, kHc4 (grid0.coords t) B⟩,
      ⟨Rect.unit ![0, 0, 0, 768] ![1, 10, 48, 256] inb_S1x10x48x1536_S1x10x48x256_0_0_0_768, kHc3 (grid0.coords t) B⟩,
      ⟨Rect.unit ![0, 0, 0, 512] ![1, 10, 48, 256] inb_S1x10x48x1536_S1x10x48x256_0_0_0_512, kHc2 (grid0.coords t) B⟩,
      ⟨Rect.unit ![0, 0, 0, 256] ![1, 10, 48, 256] inb_S1x10x48x1536_S1x10x48x256_0_0_0_256, kHc1 (grid0.coords t) B⟩,
      ⟨Rect.unit ![0, 0, 0, 0] ![1, 10, 48, 256] inb_S1x10x48x1536_S1x10x48x256_0_0_0_0, kHc0 (grid0.coords t) B⟩] := by
  rw [outsAt0_B m c t h0 h1]
  dsimp only
  frame_out
  simp only [read_unread_whole, hP, hW1, hW2, R.oc, R.os, R.x, R.sp, R.bp, R.s1, R.b1, R.s2, R.b2, R.g1, R.be1, R.g2, R.be2]
  generalize hkC : kC (grid0.coords t) B = XkC
  have ekC := hkC
  unfold kC at ekC
  simp only [ekC]
  generalize hkS : kS (grid0.coords t) B = XkS
  have ekS := hkS
  unfold kS at ekS
  simp only [ekS]
  generalize hkM : kM (grid0.coords t) B = XkM
  have ekM := hkM
  unfold kM at ekM
  simp only [hkC, hkS] at ekM
  simp only [ekM]
  generalize hkQ : kQ (grid0.coords t) B = XkQ
  have ekQ := hkQ
  unfold kQ at ekQ
  simp only [hkC, hkS] at ekQ
  simp only [ekQ]
  generalize hkL0 : kL0 (grid0.coords t) B = XkL0
  have ekL0 := hkL0
  unfold kL0 at ekL0
  simp only [hkM, hkQ] at ekL0
  simp only [ekL0]
  generalize hkL1 : kL1 (grid0.coords t) B = XkL1
  have ekL1 := hkL1
  unfold kL1 at ekL1
  simp only [hkM, hkQ] at ekL1
  simp only [ekL1]
  generalize hkL2 : kL2 (grid0.coords t) B = XkL2
  have ekL2 := hkL2
  unfold kL2 at ekL2
  simp only [hkM, hkQ] at ekL2
  simp only [ekL2]
  generalize hkL3 : kL3 (grid0.coords t) B = XkL3
  have ekL3 := hkL3
  unfold kL3 at ekL3
  simp only [hkM, hkQ] at ekL3
  simp only [ekL3]
  generalize hkL4 : kL4 (grid0.coords t) B = XkL4
  have ekL4 := hkL4
  unfold kL4 at ekL4
  simp only [hkM, hkQ] at ekL4
  simp only [ekL4]
  generalize hkL5 : kL5 (grid0.coords t) B = XkL5
  have ekL5 := hkL5
  unfold kL5 at ekL5
  simp only [hkM, hkQ] at ekL5
  simp only [ekL5]
  have r0 := rd0 XkL0 XkL1 XkL2 XkL3 XkL4 XkL5
  simp only [r0]
  have r1 := rd1 XkL0 XkL1 XkL2 XkL3 XkL4 XkL5
  simp only [r1]
  have r2 := rd2 XkL0 XkL1 XkL2 XkL3 XkL4 XkL5
  simp only [r2]
  have r3 := rd3 XkL0 XkL1 XkL2 XkL3 XkL4 XkL5
  simp only [r3]
  have r4 := rd4 XkL0 XkL1 XkL2 XkL3 XkL4 XkL5
  simp only [r4]
  have r5 := rd5 XkL0 XkL1 XkL2 XkL3 XkL4 XkL5
  simp only [r5]
  unfold kHc0 kHc1 kHc2 kHc3 kHc4 kHc5 kH kA5 kA3 kA2 kT0
  simp only [hkC, hkS, hkM, hkQ, hkL0, hkL1, hkL2, hkL3, hkL4, hkL5]

set_option maxHeartbeats 1000000 in
/-- The first codes' block at a point inside a row of points. -/
theorem mc_B (c : Dev nD) (t : Fin cfg0.N) (h0 : ¬t.val % 48 = 0) (h1 : ¬t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.1 = kMc (grid0.coords t) B := by
  rw [outsAt0_B m c t h0 h1]
  dsimp only
  frame_out
  simp only [read_unread_whole, hP, hW1, hW2, R.oc, R.os, R.x, R.sp, R.bp, R.s1, R.b1, R.s2, R.b2, R.g1, R.be1, R.g2, R.be2]
  rfl

set_option maxHeartbeats 1000000 in
/-- The first scales' block at a point inside a row of points. -/
theorem ms_B (c : Dev nD) (t : Fin cfg0.N) (h0 : ¬t.val % 48 = 0) (h1 : ¬t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.2.1 = kMs (grid0.coords t) B (outsAt0 m c (t.val - 1) (by have := t.isLt; omega)).2.2.1 := by
  rw [outsAt0_B m c t h0 h1]
  dsimp only
  frame_out
  simp only [read_unread_whole, hP, hW1, hW2, R.oc, R.os, R.x, R.sp, R.bp, R.s1, R.b1, R.s2, R.b2, R.g1, R.be1, R.g2, R.be2]
  rfl

set_option maxHeartbeats 1000000 in
/-- The hidden scales' block at a point inside a row of points. -/
theorem hs_B (c : Dev nD) (t : Fin cfg0.N) (h0 : ¬t.val % 48 = 0) (h1 : ¬t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.2.2.2.1 = kHs (grid0.coords t) B (outsAt0 m c (t.val - 1) (by have := t.isLt; omega)).2.2.2.2.1 := by
  rw [outsAt0_B m c t h0 h1]
  dsimp only
  frame_out
  simp only [read_unread_whole, hP, hW1, hW2, R.oc, R.os, R.x, R.sp, R.bp, R.s1, R.b1, R.s2, R.b2, R.g1, R.be1, R.g2, R.be2]
  rfl

set_option maxHeartbeats 1000000 in
/-- The result's block at the first point of a later row. -/
theorem y_C (c : Dev nD) (t : Fin cfg0.N) (h0 : ¬t.val % 48 = 0) (h1 : t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).1 = kY (grid0.coords t) B := by
  rw [outsAt0_C m c t h0 h1]
  dsimp only
  frame_out
  simp only [read_unread_whole, hP, hW1, hW2, R.oc, R.os, R.x, R.sp, R.bp, R.s1, R.b1, R.s2, R.b2, R.g1, R.be1, R.g2, R.be2]
  generalize hkC : kC (grid0.coords t) B = XkC
  have ekC := hkC
  unfold kC at ekC
  simp only [ekC]
  generalize hkS : kS (grid0.coords t) B = XkS
  have ekS := hkS
  unfold kS at ekS
  simp only [ekS]
  generalize hkM : kM (grid0.coords t) B = XkM
  have ekM := hkM
  unfold kM at ekM
  simp only [hkC, hkS] at ekM
  simp only [ekM]
  generalize hkQ : kQ (grid0.coords t) B = XkQ
  have ekQ := hkQ
  unfold kQ at ekQ
  simp only [hkC, hkS] at ekQ
  simp only [ekQ]
  generalize hkL0 : kL0 (grid0.coords t) B = XkL0
  have ekL0 := hkL0
  unfold kL0 at ekL0
  simp only [hkM, hkQ] at ekL0
  simp only [ekL0]
  generalize hkL1 : kL1 (grid0.coords t) B = XkL1
  have ekL1 := hkL1
  unfold kL1 at ekL1
  simp only [hkM, hkQ] at ekL1
  simp only [ekL1]
  generalize hkL2 : kL2 (grid0.coords t) B = XkL2
  have ekL2 := hkL2
  unfold kL2 at ekL2
  simp only [hkM, hkQ] at ekL2
  simp only [ekL2]
  generalize hkL3 : kL3 (grid0.coords t) B = XkL3
  have ekL3 := hkL3
  unfold kL3 at ekL3
  simp only [hkM, hkQ] at ekL3
  simp only [ekL3]
  generalize hkL4 : kL4 (grid0.coords t) B = XkL4
  have ekL4 := hkL4
  unfold kL4 at ekL4
  simp only [hkM, hkQ] at ekL4
  simp only [ekL4]
  generalize hkL5 : kL5 (grid0.coords t) B = XkL5
  have ekL5 := hkL5
  unfold kL5 at ekL5
  simp only [hkM, hkQ] at ekL5
  simp only [ekL5]
  have r0 := rd0 XkL0 XkL1 XkL2 XkL3 XkL4 XkL5
  simp only [r0]
  have r1 := rd1 XkL0 XkL1 XkL2 XkL3 XkL4 XkL5
  simp only [r1]
  have r2 := rd2 XkL0 XkL1 XkL2 XkL3 XkL4 XkL5
  simp only [r2]
  have r3 := rd3 XkL0 XkL1 XkL2 XkL3 XkL4 XkL5
  simp only [r3]
  have r4 := rd4 XkL0 XkL1 XkL2 XkL3 XkL4 XkL5
  simp only [r4]
  have r5 := rd5 XkL0 XkL1 XkL2 XkL3 XkL4 XkL5
  simp only [r5]
  unfold kY kX kF kV kF5 kF3 kF1 kH kA5 kA3 kA2 kT0
  simp only [hkC, hkS, hkM, hkQ, hkL0, hkL1, hkL2, hkL3, hkL4, hkL5]

set_option maxHeartbeats 1000000 in
/-- The hidden codes' block at the first point of a later row. -/
theorem hc_C (c : Dev nD) (t : Fin cfg0.N) (h0 : ¬t.val % 48 = 0) (h1 : t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.2.2.1 = View.canon (Val := Elt Ideal) (s := S1x10x48x1536) (e := .i8) [
      ⟨Rect.unit ![0, 0, 0, 1280] ![1, 10, 48, 256] inb_S1x10x48x1536_S1x10x48x256_0_0_0_1280, kHc5 (grid0.coords t) B⟩,
      ⟨Rect.unit ![0, 0, 0, 1024] ![1, 10, 48, 256] inb_S1x10x48x1536_S1x10x48x256_0_0_0_1024, kHc4 (grid0.coords t) B⟩,
      ⟨Rect.unit ![0, 0, 0, 768] ![1, 10, 48, 256] inb_S1x10x48x1536_S1x10x48x256_0_0_0_768, kHc3 (grid0.coords t) B⟩,
      ⟨Rect.unit ![0, 0, 0, 512] ![1, 10, 48, 256] inb_S1x10x48x1536_S1x10x48x256_0_0_0_512, kHc2 (grid0.coords t) B⟩,
      ⟨Rect.unit ![0, 0, 0, 256] ![1, 10, 48, 256] inb_S1x10x48x1536_S1x10x48x256_0_0_0_256, kHc1 (grid0.coords t) B⟩,
      ⟨Rect.unit ![0, 0, 0, 0] ![1, 10, 48, 256] inb_S1x10x48x1536_S1x10x48x256_0_0_0_0, kHc0 (grid0.coords t) B⟩] := by
  rw [outsAt0_C m c t h0 h1]
  dsimp only
  frame_out
  simp only [read_unread_whole, hP, hW1, hW2, R.oc, R.os, R.x, R.sp, R.bp, R.s1, R.b1, R.s2, R.b2, R.g1, R.be1, R.g2, R.be2]
  generalize hkC : kC (grid0.coords t) B = XkC
  have ekC := hkC
  unfold kC at ekC
  simp only [ekC]
  generalize hkS : kS (grid0.coords t) B = XkS
  have ekS := hkS
  unfold kS at ekS
  simp only [ekS]
  generalize hkM : kM (grid0.coords t) B = XkM
  have ekM := hkM
  unfold kM at ekM
  simp only [hkC, hkS] at ekM
  simp only [ekM]
  generalize hkQ : kQ (grid0.coords t) B = XkQ
  have ekQ := hkQ
  unfold kQ at ekQ
  simp only [hkC, hkS] at ekQ
  simp only [ekQ]
  generalize hkL0 : kL0 (grid0.coords t) B = XkL0
  have ekL0 := hkL0
  unfold kL0 at ekL0
  simp only [hkM, hkQ] at ekL0
  simp only [ekL0]
  generalize hkL1 : kL1 (grid0.coords t) B = XkL1
  have ekL1 := hkL1
  unfold kL1 at ekL1
  simp only [hkM, hkQ] at ekL1
  simp only [ekL1]
  generalize hkL2 : kL2 (grid0.coords t) B = XkL2
  have ekL2 := hkL2
  unfold kL2 at ekL2
  simp only [hkM, hkQ] at ekL2
  simp only [ekL2]
  generalize hkL3 : kL3 (grid0.coords t) B = XkL3
  have ekL3 := hkL3
  unfold kL3 at ekL3
  simp only [hkM, hkQ] at ekL3
  simp only [ekL3]
  generalize hkL4 : kL4 (grid0.coords t) B = XkL4
  have ekL4 := hkL4
  unfold kL4 at ekL4
  simp only [hkM, hkQ] at ekL4
  simp only [ekL4]
  generalize hkL5 : kL5 (grid0.coords t) B = XkL5
  have ekL5 := hkL5
  unfold kL5 at ekL5
  simp only [hkM, hkQ] at ekL5
  simp only [ekL5]
  have r0 := rd0 XkL0 XkL1 XkL2 XkL3 XkL4 XkL5
  simp only [r0]
  have r1 := rd1 XkL0 XkL1 XkL2 XkL3 XkL4 XkL5
  simp only [r1]
  have r2 := rd2 XkL0 XkL1 XkL2 XkL3 XkL4 XkL5
  simp only [r2]
  have r3 := rd3 XkL0 XkL1 XkL2 XkL3 XkL4 XkL5
  simp only [r3]
  have r4 := rd4 XkL0 XkL1 XkL2 XkL3 XkL4 XkL5
  simp only [r4]
  have r5 := rd5 XkL0 XkL1 XkL2 XkL3 XkL4 XkL5
  simp only [r5]
  unfold kHc0 kHc1 kHc2 kHc3 kHc4 kHc5 kH kA5 kA3 kA2 kT0
  simp only [hkC, hkS, hkM, hkQ, hkL0, hkL1, hkL2, hkL3, hkL4, hkL5]

set_option maxHeartbeats 1000000 in
/-- The first codes' block at the first point of a later row. -/
theorem mc_C (c : Dev nD) (t : Fin cfg0.N) (h0 : ¬t.val % 48 = 0) (h1 : t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.1 = kMc (grid0.coords t) B := by
  rw [outsAt0_C m c t h0 h1]
  dsimp only
  frame_out
  simp only [read_unread_whole, hP, hW1, hW2, R.oc, R.os, R.x, R.sp, R.bp, R.s1, R.b1, R.s2, R.b2, R.g1, R.be1, R.g2, R.be2]
  rfl

set_option maxHeartbeats 1000000 in
/-- The first scales' block at the first point of a later row. -/
theorem ms_C (c : Dev nD) (t : Fin cfg0.N) (h0 : ¬t.val % 48 = 0) (h1 : t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.2.1 = kMs (grid0.coords t) B k0_pay5 := by
  rw [outsAt0_C m c t h0 h1]
  dsimp only
  frame_out
  simp only [read_unread_whole, hP, hW1, hW2, R.oc, R.os, R.x, R.sp, R.bp, R.s1, R.b1, R.s2, R.b2, R.g1, R.be1, R.g2, R.be2]
  rfl

set_option maxHeartbeats 1000000 in
/-- The hidden scales' block at the first point of a later row. -/
theorem hs_C (c : Dev nD) (t : Fin cfg0.N) (h0 : ¬t.val % 48 = 0) (h1 : t.val % 6 = 0) (B : Blk) (R : Reads m c t B)
    (hP : (outsAt0 m c (t.val - 1) (by have := t.isLt; omega)).2.2.2.2.2.1 = B.wp)
    (hW1 : (outsAt0 m c (t.val - 1) (by have := t.isLt; omega)).2.2.2.2.2.2.1 = B.w1)
    (hW2 : (outsAt0 m c (t.val - 1) (by have := t.isLt; omega)).2.2.2.2.2.2.2 = B.w2) :
    (outsAt0 m c t.val t.isLt).2.2.2.2.1 = kHs (grid0.coords t) B k0_pay6 := by
  rw [outsAt0_C m c t h0 h1]
  dsimp only
  frame_out
  simp only [read_unread_whole, hP, hW1, hW2, R.oc, R.os, R.x, R.sp, R.bp, R.s1, R.b1, R.s2, R.b2, R.g1, R.be1, R.g2, R.be2]
  rfl

/-! The weights' scratch: stored at the first point, kept by every later one. -/

theorem w0_A (c : Dev nD) (t : Fin cfg0.N) (h0 : t.val % 48 = 0) (h1 : t.val % 6 = 0) :
    (outsAt0 m c t.val t.isLt).2.2.2.2.2.1 = k0_pay2 (iblk m c 3 t) := by
  rw [outsAt0_A m c t h0 h1]
  dsimp only
  frame_out

theorem w1_A (c : Dev nD) (t : Fin cfg0.N) (h0 : t.val % 48 = 0) (h1 : t.val % 6 = 0) :
    (outsAt0 m c t.val t.isLt).2.2.2.2.2.2.1 = k0_pay3 (iblk m c 4 t) := by
  rw [outsAt0_A m c t h0 h1]
  dsimp only
  frame_out

theorem w2_A (c : Dev nD) (t : Fin cfg0.N) (h0 : t.val % 48 = 0) (h1 : t.val % 6 = 0) :
    (outsAt0 m c t.val t.isLt).2.2.2.2.2.2.2 = k0_pay4 (iblk m c 5 t) := by
  rw [outsAt0_A m c t h0 h1]
  dsimp only
  frame_out

theorem w0_B (c : Dev nD) (t : Fin cfg0.N) (h0 : ¬t.val % 48 = 0) (h1 : ¬t.val % 6 = 0) :
    (outsAt0 m c t.val t.isLt).2.2.2.2.2.1 = (outsAt0 m c (t.val - 1) (by have := t.isLt; omega)).2.2.2.2.2.1 := by
  rw [outsAt0_B m c t h0 h1]
  dsimp only
  rfl

theorem w1_B (c : Dev nD) (t : Fin cfg0.N) (h0 : ¬t.val % 48 = 0) (h1 : ¬t.val % 6 = 0) :
    (outsAt0 m c t.val t.isLt).2.2.2.2.2.2.1 = (outsAt0 m c (t.val - 1) (by have := t.isLt; omega)).2.2.2.2.2.2.1 := by
  rw [outsAt0_B m c t h0 h1]
  dsimp only
  rfl

theorem w2_B (c : Dev nD) (t : Fin cfg0.N) (h0 : ¬t.val % 48 = 0) (h1 : ¬t.val % 6 = 0) :
    (outsAt0 m c t.val t.isLt).2.2.2.2.2.2.2 = (outsAt0 m c (t.val - 1) (by have := t.isLt; omega)).2.2.2.2.2.2.2 := by
  rw [outsAt0_B m c t h0 h1]
  dsimp only
  rfl

theorem w0_C (c : Dev nD) (t : Fin cfg0.N) (h0 : ¬t.val % 48 = 0) (h1 : t.val % 6 = 0) :
    (outsAt0 m c t.val t.isLt).2.2.2.2.2.1 = (outsAt0 m c (t.val - 1) (by have := t.isLt; omega)).2.2.2.2.2.1 := by
  rw [outsAt0_C m c t h0 h1]
  dsimp only
  rfl

theorem w1_C (c : Dev nD) (t : Fin cfg0.N) (h0 : ¬t.val % 48 = 0) (h1 : t.val % 6 = 0) :
    (outsAt0 m c t.val t.isLt).2.2.2.2.2.2.1 = (outsAt0 m c (t.val - 1) (by have := t.isLt; omega)).2.2.2.2.2.2.1 := by
  rw [outsAt0_C m c t h0 h1]
  dsimp only
  rfl

theorem w2_C (c : Dev nD) (t : Fin cfg0.N) (h0 : ¬t.val % 48 = 0) (h1 : t.val % 6 = 0) :
    (outsAt0 m c t.val t.isLt).2.2.2.2.2.2.2 = (outsAt0 m c (t.val - 1) (by have := t.isLt; omega)).2.2.2.2.2.2.2 := by
  rw [outsAt0_C m c t h0 h1]
  dsimp only
  rfl

end Cert.KernelIdeal.Out
-- ==== Proof.Arith.lean ====
module

public import proofs.«01_k».proof.Proof.Row
/-! # Arithmetic of the extended reals the comparison needs

The kernel multiplies by reciprocals where the reference divides, and takes maxima and sums tile by tile. -/
set_option maxRecDepth 16384
@[expose] public noncomputable section
namespace Cert.Mlp
open Idealize.ShloMosaic
open scoped BigOperators

/-- The constant 127. -/
theorem c127 : Ideal.ofBits .f32 0x42FE0000#32 = ((127 : ℝ) : EReal) := by
  simp [Ideal.ofBits, Ideal.ieee, -EReal.coe_mul]; norm_num

/-- The constant -127. -/
theorem cm127 : Ideal.ofBits .f32 0xC2FE0000#32 = ((-127 : ℝ) : EReal) := by
  simp [Ideal.ofBits, Ideal.ieee, -EReal.coe_mul, -EReal.coe_neg]; norm_num

/-- The constant 384. -/
theorem c384 : Ideal.ofBits .f32 0x43C00000#32 = ((384 : ℝ) : EReal) := by
  simp [Ideal.ofBits, Ideal.ieee, -EReal.coe_mul]; norm_num

/-- The constant from which a row maximum starts. -/
theorem cbot : Ideal.ofBits .f32 0xFF800000#32 = (⊥ : EReal) := by
  simp [Ideal.ofBits, Ideal.ieee]

/-- The layer norm's epsilon is a positive real. -/
theorem ceps : ∃ e : ℝ, 0 < e ∧ Ideal.ofBits .f32 0x3727C5AC#32 = (e : EReal) := by
  refine ⟨_, ?_, by simp [Ideal.ofBits, Ideal.ieee, -EReal.coe_mul]; rfl⟩
  positivity

/-- A scale is never zero. -/
theorem scale_ne (a : EReal) : scale a = 0 → False := by
  unfold scale
  split_ifs with h
  · simp
  · rw [c127, Ideal.div, if_neg (by norm_num)]
    intro h0
    rcases mul_eq_zero.1 h0 with h1 | h1
    · exact h h1
    · rw [← EReal.coe_inv] at h1
      norm_num at h1

/-- Multiplying by the reciprocal of a scale is dividing by it. -/
theorem mul_one_div (x a : EReal) : x * Ideal.div 1 (scale a) = Ideal.div x (scale a) := by
  have h : scale a ≠ 0 := fun h => scale_ne a h
  simp only [Ideal.div, if_neg h, one_mul]

/-- A square is nonnegative. -/
theorem sq_nonneg' (x : EReal) : 0 ≤ x * x := by
  induction x using EReal.rec with
  | bot => simp
  | top => simp
  | coe r => exact_mod_cast mul_self_nonneg r

/-- Variance plus epsilon is positive. -/
theorem varEps_pos (w : Fin 384 → EReal) : 0 < varEps w := by
  obtain ⟨e, he, h⟩ := ceps
  unfold varEps
  rw [h, c384, Ideal.div, if_neg (by norm_num)]
  have h1 : (0 : EReal) ≤ (∑ c, w c * w c) * ((384 : ℝ) : EReal)⁻¹ :=
    mul_nonneg (Finset.sum_nonneg fun c _ => sq_nonneg' _) (by rw [← EReal.coe_inv]; exact_mod_cast (by norm_num : (0 : ℝ) ≤ 384⁻¹))
  calc (0 : EReal) < (e : EReal) := by exact_mod_cast he
    _ = 0 + (e : EReal) := (zero_add _).symm
    _ ≤ _ := add_le_add_left h1 _

/-- Multiplying by the reciprocal square root of variance plus epsilon is dividing by its square root. -/
theorem mul_rsqrt (x : EReal) (w : Fin 384 → EReal) : x * Ideal.rsqrt (varEps w) = Ideal.div x (Ideal.sqrt (varEps w)) := by
  have h := varEps_pos w
  generalize varEps w = v at h
  induction v using EReal.rec with
  | bot => simp at h
  | top => simp [Ideal.div]
  | coe r =>
    have hr : 0 < r := by exact_mod_cast h
    have hs : Real.sqrt r ≠ 0 := (Real.sqrt_pos.2 hr).ne'
    rw [Ideal.rsqrt_coe, Ideal.sqrt_coe, if_neg hr.le.not_gt, if_neg hr.ne', if_neg hr.le.not_gt, Ideal.div, if_neg (by exact_mod_cast hs), EReal.coe_inv]

/-- A rounded and clipped value is an integer between -127 and 127. -/
theorem clipRound_int (x : EReal) : ∃ n : ℤ, -127 ≤ n ∧ n ≤ 127 ∧ clipRound x = ((n : ℝ) : EReal) := by
  unfold clipRound
  rw [c127, cm127]
  induction x using EReal.rec with
  | bot => exact ⟨-127, by norm_num, by norm_num, by
      show min _ (max _ (⊥ : EReal)) = _
      rw [max_eq_left bot_le, min_eq_right (by norm_cast)]; norm_num⟩
  | top => exact ⟨127, by norm_num, by norm_num, by
      show min _ (max _ (⊤ : EReal)) = _
      rw [max_eq_right le_top, min_eq_left le_top]; norm_num⟩
  | coe r =>
    refine ⟨min 127 (max (-127) (Ideal.roundHalfEven r)), by omega, by omega, ?_⟩
    show min _ (max _ (((Ideal.roundHalfEven r : ℤ) : ℝ) : EReal)) = _
    push_cast
    rfl

/-- The code of a rounded and clipped value stands for that value. -/
theorem codeVal_clip (x : EReal) : codeVal (Ideal.fptosi 8 (clipRound x)) = clipRound x := by
  obtain ⟨n, h1, h2, h⟩ := clipRound_int x
  rw [h, codeVal, Ideal.fptosi]
  have : Ideal.toIntClamped (-(2 ^ (8 - 1) : Nat)) ((2 ^ (8 - 1) : Nat) - 1) ((n : ℝ) : EReal) = n := by
    show max _ (min _ (if (0:ℝ) ≤ (n : ℝ) then ⌊(n : ℝ)⌋ else ⌈(n : ℝ)⌉)) = n
    rw [Int.floor_intCast, Int.ceil_intCast, ite_self]
    norm_num
    omega
  rw [this, BitVec.toInt_ofInt]
  have : n.bmod (2 ^ 8) = n := by rw [Int.bmod_eq_of_le] <;> norm_num <;> omega
  rw [this]

/-- A magnitude is nonnegative. -/
theorem abs_nonneg' (x : EReal) : 0 ≤ max x (-x) := by
  rcases le_total 0 x with h | h
  · exact le_max_of_le_left h
  · exact le_max_of_le_right (by simpa using EReal.neg_le_neg_iff.2 h)

/-- The largest of 1536 magnitudes, taken over twelve slices of 128 lanes, starting from zero. -/
theorem sup_tiles (f : Fin 1536 → EReal) (hf : ∀ j, 0 ≤ f j) :
    (Finset.univ.fold max ⊥ fun x : Fin 128 =>
      max (max (max (max (max (max (max (max (max (max (max (max 0 (f ⟨x, by omega⟩)) (f ⟨128 + x, by omega⟩)) (f ⟨256 + x, by omega⟩)) (f ⟨384 + x, by omega⟩))
        (f ⟨512 + x, by omega⟩)) (f ⟨640 + x, by omega⟩)) (f ⟨768 + x, by omega⟩)) (f ⟨896 + x, by omega⟩)) (f ⟨1024 + x, by omega⟩)) (f ⟨1152 + x, by omega⟩))
        (f ⟨1280 + x, by omega⟩)) (f ⟨1408 + x, by omega⟩)) = Finset.univ.fold max ⊥ f := by
  show Finset.univ.sup _ = Finset.univ.sup f
  apply le_antisymm
  · refine Finset.sup_le fun x _ => ?_
    have h : ∀ j, f j ≤ Finset.univ.sup f := fun j => Finset.le_sup (Finset.mem_univ j)
    simp only [max_le_iff, h, and_true]
    exact (hf 0).trans (h 0)
  · refine Finset.sup_le fun j _ => ?_
    refine le_trans ?_ (Finset.le_sup (Finset.mem_univ (⟨j % 128, Nat.mod_lt _ (by decide)⟩ : Fin 128)))
    have hj := j.isLt
    obtain ⟨n, hn⟩ : ∃ n, n = j.val / 128 := ⟨_, rfl⟩
    have hn' : n < 12 := by omega
    have e : ∀ k (hk : k < 1536), k = j.val → f j = f ⟨k, hk⟩ := fun k hk h => congrArg f (Fin.ext h.symm)
    interval_cases n <;> simp only [le_max_iff]
    · rw [e (j.val % 128) (by omega) (by omega)]; simp
    · rw [e (128 + j.val % 128) (by omega) (by omega)]; simp
    · rw [e (256 + j.val % 128) (by omega) (by omega)]; simp
    · rw [e (384 + j.val % 128) (by omega) (by omega)]; simp
    · rw [e (512 + j.val % 128) (by omega) (by omega)]; simp
    · rw [e (640 + j.val % 128) (by omega) (by omega)]; simp
    · rw [e (768 + j.val % 128) (by omega) (by omega)]; simp
    · rw [e (896 + j.val % 128) (by omega) (by omega)]; simp
    · rw [e (1024 + j.val % 128) (by omega) (by omega)]; simp
    · rw [e (1152 + j.val % 128) (by omega) (by omega)]; simp
    · rw [e (1280 + j.val % 128) (by omega) (by omega)]; simp
    · rw [e (1408 + j.val % 128) (by omega) (by omega)]; simp

/-- A sum over 1536 is the sum of six sums over 256. -/
theorem sum_tiles (f : Fin 1536 → EReal) :
    ∑ j, f j = (∑ x : Fin 256, f ⟨x, by omega⟩) + (∑ x : Fin 256, f ⟨256 + x, by omega⟩) + (∑ x : Fin 256, f ⟨512 + x, by omega⟩)
      + (∑ x : Fin 256, f ⟨768 + x, by omega⟩) + (∑ x : Fin 256, f ⟨1024 + x, by omega⟩) + (∑ x : Fin 256, f ⟨1280 + x, by omega⟩) := by
  rw [Fin.sum_univ_tiles 6 256 rfl f]
  simp only [Fin.sum_univ_six]
  simp

/-- The kernel's word for lane `10 g + c`. -/
theorem lane_word (g c : ℕ) : Scalar.addi (Scalar.muli (BitVec.ofNat 32 g) 10#32) (BitVec.ofNat 32 c) = BitVec.ofNat 32 (10 * g + c) := by
  show BitVec.ofNat 32 g * BitVec.ofNat 32 10 + BitVec.ofNat 32 c = _
  rw [← BitVec.ofNat_mul, ← BitVec.ofNat_add, mul_comm]

/-- A select on the equality of two small words. -/
theorem sel_lane {α : Type} (n m : ℕ) (hn : n < 2 ^ 32) (hm : m < 2 ^ 32) (x y : α) :
    Scalar.select (IntOp.cmpi CmpIPredicate.eq (BitVec.ofNat 32 n) (BitVec.ofNat 32 m)) x y = if n = m then x else y := by
  unfold Scalar.select IntOp.cmpi
  have : (BitVec.ofNat 32 n == BitVec.ofNat 32 m) = decide (n = m) := by
    rw [Bool.eq_iff_iff]
    simp only [beq_iff_eq, decide_eq_true_eq]
    constructor
    · intro h
      have := congrArg BitVec.toNat h
      rwa [BitVec.toNat_ofNat, BitVec.toNat_ofNat, Nat.mod_eq_of_lt hn, Nat.mod_eq_of_lt hm] at this
    · rintro rfl; rfl
  simp only [this]
  by_cases h : n = m <;> simp [h]

/-- Summing a row of 60 masked to one lane gives that lane. -/
theorem sum_lane (f : Fin 60 → EReal) (m : Fin 60) :
    ∑ x : Fin 60, Scalar.select (IntOp.cmpi CmpIPredicate.eq (BitVec.ofNat 32 x) (BitVec.ofNat 32 m)) (f x) 0 = f m := by
  rw [Finset.sum_eq_single m]
  · rw [sel_lane _ _ (by omega) (by omega), if_pos rfl]
  · intro b _ hb
    rw [sel_lane _ _ (by omega) (by omega), if_neg (fun h => hb (Fin.ext h))]
  · simp

end Cert.Mlp
-- ==== Proof.KPay.lean ====
module

public import proofs.«01_k».proof.Proof.Body
public import proofs.«01_k».proof.Proof.Arith
/-! # The body's operations at an index

One lemma for each value the body names: what it is at an index, in terms of the values it is computed from. -/
set_option maxRecDepth 16384
@[expose] public noncomputable section
namespace Cert.KernelIdeal.Row
open Cert.KernelIdeal Cert.KernelIdeal.Gen Cert.KernelIdeal.Body Cert.Mlp Idealize.ShloMosaic Idealize.ShloMosaic.TcCoe Idealize.SL.Sem
open scoped BigOperators

/-- The residual block, at a row. -/
theorem p19 (v99 : Vec Ideal S1x10x48x384 .bf16) (a : Fin 480) (b : Fin 384) :
    k0_pay19 v99 (ix2 a b) = v99 (ix4 0 ⟨a.val / 48, by omega⟩ ⟨a.val % 48, by omega⟩ b) := by
  pointwise [k0_pay19, gelu, lin, cent, scale, amax, clipRound]

/-- A gain, at a channel. -/
theorem p20 (v103 : Vec Ideal S1x384 .f32) (b : Fin 384) :
    k0_pay20 v103 (ix2 0 b) = v103 (ix2 0 b) := by
  pointwise [k0_pay20, gelu, lin, cent, scale, amax, clipRound]

/-- An offset, at a channel. -/
theorem p21 (v105 : Vec Ideal S1x384 .f32) (b : Fin 384) :
    k0_pay21 v105 (ix2 0 b) = v105 (ix2 0 b) := by
  pointwise [k0_pay21, gelu, lin, cent, scale, amax, clipRound]

/-- The first residual, at an index. -/
theorem p24 (v102 : FVec Ideal S480x384 .f32) (v104 : FVec Ideal S1x384 .f32) (v106 : FVec Ideal S1x384 .f32) (v112 : FVec Ideal S480x384 .f32) (v114 : FVec Ideal S480 .f32) (a : Fin 480) (b : Fin 384) :
    k0_pay24 v102 v104 v106 v112 v114 (ix2 a b) = v102 (ix2 a b) + (v112 (ix2 a b) * Ideal.rsqrt (Ideal.div (v114 (ix1 a)) (Ideal.ofBits .f32 0x43C00000#32) + Ideal.ofBits .f32 0x3727C5AC#32) * v104 (ix2 0 b) + v106 (ix2 0 b)) := by
  pointwise [k0_pay24, gelu, lin, cent, scale, amax, clipRound]

/-- The scale of a row of the residual. -/
theorem p25 (v102 : FVec Ideal S480x384 .f32) (v104 : FVec Ideal S1x384 .f32) (v106 : FVec Ideal S1x384 .f32) (v112 : FVec Ideal S480x384 .f32) (v114 : FVec Ideal S480 .f32) (a : Fin 480) :
    k0_pay25 v102 v104 v106 v112 v114 (ix2 a 0) = scale (amax fun k => k0_pay24 v102 v104 v106 v112 v114 (ix2 a k)) := by
  unfold k0_pay25
  generalize k0_pay24 v102 v104 v106 v112 v114 = X0
  pointwise [gelu, lin, cent, scale, amax, clipRound]
  rw [cbot]; rfl

/-- The rounded and clipped residual, at an index. -/
theorem p26 (v102 : FVec Ideal S480x384 .f32) (v104 : FVec Ideal S1x384 .f32) (v106 : FVec Ideal S1x384 .f32) (v112 : FVec Ideal S480x384 .f32) (v114 : FVec Ideal S480 .f32) (a : Fin 480) (b : Fin 384) :
    k0_pay26 v102 v104 v106 v112 v114 (ix2 a b) = clipRound (k0_pay24 v102 v104 v106 v112 v114 (ix2 a b) * Ideal.div 1 (k0_pay25 v102 v104 v106 v112 v114 (ix2 a 0))) := by
  unfold k0_pay26
  generalize k0_pay24 v102 v104 v106 v112 v114 = X0
  generalize k0_pay25 v102 v104 v106 v112 v114 = X1
  pointwise [gelu, lin, cent, scale, amax, clipRound]

/-- The codes of the residual, at an index. -/
theorem p27 (v102 : FVec Ideal S480x384 .f32) (v104 : FVec Ideal S1x384 .f32) (v106 : FVec Ideal S1x384 .f32) (v112 : FVec Ideal S480x384 .f32) (v114 : FVec Ideal S480 .f32) (b : Fin 10) (c : Fin 48) (d : Fin 384) :
    k0_pay27 v102 v104 v106 v112 v114 (ix4 0 b c d) = Ideal.fptosi 8 (k0_pay26 v102 v104 v106 v112 v114 (ix2 ⟨b.val * 48 + c.val, by omega⟩ d)) := by
  unfold k0_pay27
  generalize k0_pay26 v102 v104 v106 v112 v114 = X0
  pointwise [gelu, lin, cent, scale, amax, clipRound]
  rfl

/-- Truncation is the identity. -/
theorem p33 (v145 : FVec Ideal S480x384 .f32) (a : Fin 480) (b : Fin 384) :
    k0_pay33 v145 (ix2 a b) = v145 (ix2 a b) := by
  pointwise [k0_pay33, gelu, lin, cent, scale, amax, clipRound]

/-- The running maximum starts from zero. -/
theorem p34 (a : Fin 480) (b : Fin 128) : k0_pay34 (F := Ideal) (ix2 a b) = (0 : EReal) := by
  pointwise [k0_pay34]

/-- The first hidden tile, at an index. -/
theorem p35 (v136 : FVec Ideal S480x1 .f32) (v145 : FVec Ideal S480x384 .f32) (v228 : Vec Ideal S384x256 .bf16) (v232 : Vec Ideal S1x256 .f32) (v236 : Vec Ideal S1x256 .f32) (a : Fin 480) (b : Fin 256) :
    k0_pay35 v136 v145 v228 v232 v236 (ix2 a b) = gelu (lin (fun c => v145 (ix2 a c)) (v136 (ix2 a 0)) (fun c k => v228 (ix2 c k)) (fun k => v232 (ix2 0 k)) (fun k => v236 (ix2 0 k)) b) := by
  unfold k0_pay35 k0_pay33
  pointwise [gelu, lin]
  rfl

/-- The first hidden tile as it is stored. -/
theorem p36 (v136 : FVec Ideal S480x1 .f32) (v145 : FVec Ideal S480x384 .f32) (v228 : Vec Ideal S384x256 .bf16) (v232 : Vec Ideal S1x256 .f32) (v236 : Vec Ideal S1x256 .f32) (a : Fin 480) (b : Fin 256) :
    k0_pay36 v136 v145 v228 v232 v236 (ix2 a b) = k0_pay35 v136 v145 v228 v232 v236 (ix2 a b) := by
  unfold k0_pay36
  generalize k0_pay35 v136 v145 v228 v232 v236 = X0
  pointwise [gelu, lin, cent, scale, amax, clipRound]

/-- The second hidden tile, at an index. -/
theorem p37 (v136 : FVec Ideal S480x1 .f32) (v226 : FVec Ideal S480x384 .bf16) (v257 : Vec Ideal S384x256 .bf16) (v261 : Vec Ideal S1x256 .f32) (v265 : Vec Ideal S1x256 .f32) (a : Fin 480) (b : Fin 256) :
    k0_pay37 v136 v226 v257 v261 v265 (ix2 a b) = gelu (lin (fun c => v226 (ix2 a c)) (v136 (ix2 a 0)) (fun c k => v257 (ix2 c k)) (fun k => v261 (ix2 0 k)) (fun k => v265 (ix2 0 k)) b) := by
  pointwise [k0_pay37, gelu, lin, cent, scale, amax, clipRound]
  rfl

/-- The second hidden tile as it is stored. -/
theorem p38 (v136 : FVec Ideal S480x1 .f32) (v226 : FVec Ideal S480x384 .bf16) (v257 : Vec Ideal S384x256 .bf16) (v261 : Vec Ideal S1x256 .f32) (v265 : Vec Ideal S1x256 .f32) (a : Fin 480) (b : Fin 256) :
    k0_pay38 v136 v226 v257 v261 v265 (ix2 a b) = k0_pay37 v136 v226 v257 v261 v265 (ix2 a b) := by
  unfold k0_pay38
  generalize k0_pay37 v136 v226 v257 v261 v265 = X0
  pointwise [gelu, lin, cent, scale, amax, clipRound]

/-- The running maximum after two tiles. -/
theorem p39 (v136 : FVec Ideal S480x1 .f32) (v226 : FVec Ideal S480x384 .bf16) (v227 : FVec Ideal S480x128 .f32) (v247 : FVec Ideal S480x256 .f32) (v257 : Vec Ideal S384x256 .bf16) (v261 : Vec Ideal S1x256 .f32) (v265 : Vec Ideal S1x256 .f32) (a : Fin 480) (b : Fin 128) :
    k0_pay39 v136 v226 v227 v247 v257 v261 v265 (ix2 a b) = max (max (max (max (v227 (ix2 a b)) (FloatOps.absf (F := Ideal) (φ := .f32) (v247 (ix2 a ⟨b.val, by omega⟩)))) (FloatOps.absf (F := Ideal) (φ := .f32) (v247 (ix2 a ⟨128 + b.val, by omega⟩)))) (FloatOps.absf (F := Ideal) (φ := .f32) (k0_pay37 v136 v226 v257 v261 v265 (ix2 a ⟨b.val, by omega⟩)))) (FloatOps.absf (F := Ideal) (φ := .f32) (k0_pay37 v136 v226 v257 v261 v265 (ix2 a ⟨128 + b.val, by omega⟩))) := by
  unfold k0_pay39
  generalize k0_pay37 v136 v226 v257 v261 v265 = X0
  pointwise [gelu, lin, cent, scale, amax, clipRound]

/-- A product times the row scales. -/
theorem p40 (v136 : FVec Ideal S480x1 .f32) (v226 : FVec Ideal S480x384 .bf16) (v286 : Vec Ideal S384x256 .bf16) (a : Fin 480) (b : Fin 256) :
    k0_pay40 v136 v226 v286 (ix2 a b) = (∑ x, v226 (ix2 a x) * v286 (ix2 x b)) * v136 (ix2 a 0) := by
  pointwise [k0_pay40, gelu, lin, cent, scale, amax, clipRound]

/-- The column scales, at a channel. -/
theorem p41 (v290 : Vec Ideal S1x256 .f32) (b : Fin 256) :
    k0_pay41 v290 (ix2 0 b) = v290 (ix2 0 b) := by
  pointwise [k0_pay41, gelu, lin, cent, scale, amax, clipRound]

/-- The third hidden tile, from the scaled product. -/
theorem p42 (v289 : FVec Ideal S480x256 .f32) (v291 : FVec Ideal S1x256 .f32) (v294 : Vec Ideal S1x256 .f32) (a : Fin 480) (b : Fin 256) :
    k0_pay42 v289 v291 v294 (ix2 a b) = gelu (v289 (ix2 a b) * v291 (ix2 0 b) + v294 (ix2 0 b)) := by
  pointwise [k0_pay42, gelu, lin, cent, scale, amax, clipRound]
  rfl

/-- The third hidden tile as it is stored. -/
theorem p43 (v289 : FVec Ideal S480x256 .f32) (v291 : FVec Ideal S1x256 .f32) (v294 : Vec Ideal S1x256 .f32) (a : Fin 480) (b : Fin 256) :
    k0_pay43 v289 v291 v294 (ix2 a b) = k0_pay42 v289 v291 v294 (ix2 a b) := by
  unfold k0_pay43
  generalize k0_pay42 v289 v291 v294 = X0
  pointwise [gelu, lin, cent, scale, amax, clipRound]

/-- The running maximum after three tiles. -/
theorem p44 (v285 : FVec Ideal S480x128 .f32) (v289 : FVec Ideal S480x256 .f32) (v291 : FVec Ideal S1x256 .f32) (v294 : Vec Ideal S1x256 .f32) (a : Fin 480) (b : Fin 128) :
    k0_pay44 v285 v289 v291 v294 (ix2 a b) = max (max (v285 (ix2 a b)) (FloatOps.absf (F := Ideal) (φ := .f32) (k0_pay42 v289 v291 v294 (ix2 a ⟨b.val, by omega⟩)))) (FloatOps.absf (F := Ideal) (φ := .f32) (k0_pay42 v289 v291 v294 (ix2 a ⟨128 + b.val, by omega⟩))) := by
  unfold k0_pay44
  generalize k0_pay42 v289 v291 v294 = X0
  pointwise [gelu, lin, cent, scale, amax, clipRound]

/-- The fourth tile before its activation. -/
theorem p45 (v136 : FVec Ideal S480x1 .f32) (v226 : FVec Ideal S480x384 .bf16) (v315 : Vec Ideal S384x256 .bf16) (v319 : Vec Ideal S1x256 .f32) (v323 : Vec Ideal S1x256 .f32) (a : Fin 480) (b : Fin 256) :
    k0_pay45 v136 v226 v315 v319 v323 (ix2 a b) = lin (fun c => v226 (ix2 a c)) (v136 (ix2 a 0)) (fun c k => v315 (ix2 c k)) (fun k => v319 (ix2 0 k)) (fun k => v323 (ix2 0 k)) b := by
  pointwise [k0_pay45, gelu, lin, cent, scale, amax, clipRound]

/-- One factor of the fourth tile's activation. -/
theorem p46 (v136 : FVec Ideal S480x1 .f32) (v226 : FVec Ideal S480x384 .bf16) (v315 : Vec Ideal S384x256 .bf16) (v319 : Vec Ideal S1x256 .f32) (v323 : Vec Ideal S1x256 .f32) (a : Fin 480) (b : Fin 256) :
    k0_pay46 v136 v226 v315 v319 v323 (ix2 a b) = Ideal.ofBits .f32 0x3F000000#32 * k0_pay45 v136 v226 v315 v319 v323 (ix2 a b) := by
  unfold k0_pay46
  generalize k0_pay45 v136 v226 v315 v319 v323 = X0
  pointwise [gelu, lin, cent, scale, amax, clipRound]

/-- The other factor of the fourth tile's activation. -/
theorem p47 (v136 : FVec Ideal S480x1 .f32) (v226 : FVec Ideal S480x384 .bf16) (v315 : Vec Ideal S384x256 .bf16) (v319 : Vec Ideal S1x256 .f32) (v323 : Vec Ideal S1x256 .f32) (a : Fin 480) (b : Fin 256) :
    k0_pay47 v136 v226 v315 v319 v323 (ix2 a b) = 1 + Ideal.erf (k0_pay45 v136 v226 v315 v319 v323 (ix2 a b) * Ideal.ofBits .f32 0x3F3504F3#32) := by
  unfold k0_pay47
  generalize k0_pay45 v136 v226 v315 v319 v323 = X0
  pointwise [gelu, lin, cent, scale, amax, clipRound]
  rfl

/-- The fourth hidden tile, from its factors. -/
theorem p48 (v328 : FVec Ideal S480x256 .f32) (v333 : FVec Ideal S480x256 .f32) (a : Fin 480) (b : Fin 256) :
    k0_pay48 v328 v333 (ix2 a b) = v328 (ix2 a b) * v333 (ix2 a b) := by
  pointwise [k0_pay48, gelu, lin, cent, scale, amax, clipRound]

/-- The fourth hidden tile as it is stored. -/
theorem p49 (v328 : FVec Ideal S480x256 .f32) (v333 : FVec Ideal S480x256 .f32) (a : Fin 480) (b : Fin 256) :
    k0_pay49 v328 v333 (ix2 a b) = k0_pay48 v328 v333 (ix2 a b) := by
  unfold k0_pay49
  generalize k0_pay48 v328 v333 = X0
  pointwise [gelu, lin, cent, scale, amax, clipRound]

/-- The fifth hidden tile, at an index. -/
theorem p50 (v136 : FVec Ideal S480x1 .f32) (v226 : FVec Ideal S480x384 .bf16) (v344 : Vec Ideal S384x256 .bf16) (v348 : Vec Ideal S1x256 .f32) (v352 : Vec Ideal S1x256 .f32) (a : Fin 480) (b : Fin 256) :
    k0_pay50 v136 v226 v344 v348 v352 (ix2 a b) = gelu (lin (fun c => v226 (ix2 a c)) (v136 (ix2 a 0)) (fun c k => v344 (ix2 c k)) (fun k => v348 (ix2 0 k)) (fun k => v352 (ix2 0 k)) b) := by
  pointwise [k0_pay50, gelu, lin, cent, scale, amax, clipRound]
  rfl

/-- The fifth hidden tile as it is stored. -/
theorem p51 (v136 : FVec Ideal S480x1 .f32) (v226 : FVec Ideal S480x384 .bf16) (v344 : Vec Ideal S384x256 .bf16) (v348 : Vec Ideal S1x256 .f32) (v352 : Vec Ideal S1x256 .f32) (a : Fin 480) (b : Fin 256) :
    k0_pay51 v136 v226 v344 v348 v352 (ix2 a b) = k0_pay50 v136 v226 v344 v348 v352 (ix2 a b) := by
  unfold k0_pay51
  generalize k0_pay50 v136 v226 v344 v348 v352 = X0
  pointwise [gelu, lin, cent, scale, amax, clipRound]

/-- The running maximum after five tiles. -/
theorem p52 (v136 : FVec Ideal S480x1 .f32) (v226 : FVec Ideal S480x384 .bf16) (v314 : FVec Ideal S480x128 .f32) (v328 : FVec Ideal S480x256 .f32) (v333 : FVec Ideal S480x256 .f32) (v344 : Vec Ideal S384x256 .bf16) (v348 : Vec Ideal S1x256 .f32) (v352 : Vec Ideal S1x256 .f32) (a : Fin 480) (b : Fin 128) :
    k0_pay52 v136 v226 v314 v328 v333 v344 v348 v352 (ix2 a b) = max (max (max (max (v314 (ix2 a b)) (FloatOps.absf (F := Ideal) (φ := .f32) (k0_pay48 v328 v333 (ix2 a ⟨b.val, by omega⟩)))) (FloatOps.absf (F := Ideal) (φ := .f32) (k0_pay48 v328 v333 (ix2 a ⟨128 + b.val, by omega⟩)))) (FloatOps.absf (F := Ideal) (φ := .f32) (k0_pay50 v136 v226 v344 v348 v352 (ix2 a ⟨b.val, by omega⟩)))) (FloatOps.absf (F := Ideal) (φ := .f32) (k0_pay50 v136 v226 v344 v348 v352 (ix2 a ⟨128 + b.val, by omega⟩))) := by
  unfold k0_pay52
  generalize k0_pay48 v328 v333 = X0
  generalize k0_pay50 v136 v226 v344 v348 v352 = X1
  pointwise [gelu, lin, cent, scale, amax, clipRound]

/-- The sixth product. -/
theorem p53 (v226 : FVec Ideal S480x384 .bf16) (v373 : Vec Ideal S384x256 .bf16) (a : Fin 480) (b : Fin 256) :
    k0_pay53 v226 v373 (ix2 a b) = ∑ x, v226 (ix2 a x) * v373 (ix2 x b) := by
  pointwise [k0_pay53, gelu, lin, cent, scale, amax, clipRound]

/-- The sixth hidden tile, from its product. -/
theorem p54 (v136 : FVec Ideal S480x1 .f32) (v374 : FVec Ideal S480x256 .f32) (v377 : Vec Ideal S1x256 .f32) (v381 : Vec Ideal S1x256 .f32) (a : Fin 480) (b : Fin 256) :
    k0_pay54 v136 v374 v377 v381 (ix2 a b) = gelu (v374 (ix2 a b) * v136 (ix2 a 0) * v377 (ix2 0 b) + v381 (ix2 0 b)) := by
  pointwise [k0_pay54, gelu, lin, cent, scale, amax, clipRound]
  rfl

/-- The sixth hidden tile as it is stored. -/
theorem p55 (v136 : FVec Ideal S480x1 .f32) (v374 : FVec Ideal S480x256 .f32) (v377 : Vec Ideal S1x256 .f32) (v381 : Vec Ideal S1x256 .f32) (a : Fin 480) (b : Fin 256) :
    k0_pay55 v136 v374 v377 v381 (ix2 a b) = k0_pay54 v136 v374 v377 v381 (ix2 a b) := by
  unfold k0_pay55
  generalize k0_pay54 v136 v374 v377 v381 = X0
  pointwise [gelu, lin, cent, scale, amax, clipRound]

/-- The scale of a row of the hidden layer. -/
theorem p56 (v136 : FVec Ideal S480x1 .f32) (v372 : FVec Ideal S480x128 .f32) (v374 : FVec Ideal S480x256 .f32) (v377 : Vec Ideal S1x256 .f32) (v381 : Vec Ideal S1x256 .f32) (a : Fin 480) :
    k0_pay56 v136 v372 v374 v377 v381 (ix2 a 0) = scale (Finset.univ.fold max ⊥ fun b : Fin 128 => max (max (v372 (ix2 a b)) (FloatOps.absf (F := Ideal) (φ := .f32) (k0_pay54 v136 v374 v377 v381 (ix2 a ⟨b.val, by omega⟩)))) (FloatOps.absf (F := Ideal) (φ := .f32) (k0_pay54 v136 v374 v377 v381 (ix2 a ⟨128 + b.val, by omega⟩)))) := by
  unfold k0_pay56
  generalize k0_pay54 v136 v374 v377 v381 = X0
  pointwise [gelu, lin, cent, scale, amax, clipRound]
  rw [cbot]

/-- The reciprocal of the hidden row's scale. -/
theorem p62 (v409 : FVec Ideal S480x1 .f32) (a : Fin 480) :
    k0_pay62 v409 (ix2 a 0) = Ideal.div 1 (v409 (ix2 a 0)) := by
  pointwise [k0_pay62, gelu, lin, cent, scale, amax, clipRound]

/-- The first tile rounded and clipped. -/
theorem p63 (v409 : FVec Ideal S480x1 .f32) (v488 : Vec Ideal S480x256 .f32) (a : Fin 480) (b : Fin 256) :
    k0_pay63 v409 v488 (ix2 a b) = clipRound (v488 (ix2 a b) * k0_pay62 v409 (ix2 a 0)) := by
  unfold k0_pay63
  generalize k0_pay62 v409 = X0
  pointwise [gelu, lin, cent, scale, amax, clipRound]

/-- The codes of the first tile. -/
theorem p64 (v409 : FVec Ideal S480x1 .f32) (v488 : Vec Ideal S480x256 .f32) (b : Fin 10) (c : Fin 48) (d : Fin 256) :
    k0_pay64 v409 v488 (ix4 0 b c d) = Ideal.fptosi 8 (k0_pay63 v409 v488 (ix2 ⟨b.val * 48 + c.val, by omega⟩ d)) := by
  unfold k0_pay64
  generalize k0_pay63 v409 v488 = X0
  pointwise [gelu, lin, cent, scale, amax, clipRound]
  rfl

/-- The product of the first tile. -/
theorem p65 (v409 : FVec Ideal S480x1 .f32) (v488 : Vec Ideal S480x256 .f32) (v502 : Vec Ideal S256x384 .bf16) (a : Fin 480) (b : Fin 384) :
    k0_pay65 v409 v488 v502 (ix2 a b) = ∑ x, k0_pay63 v409 v488 (ix2 a x) * v502 (ix2 x b) := by
  unfold k0_pay65
  generalize k0_pay63 v409 v488 = X0
  pointwise [gelu, lin, cent, scale, amax, clipRound]

/-- The second tile over its scale. -/
theorem p66 (v409 : FVec Ideal S480x1 .f32) (v505 : Vec Ideal S480x256 .f32) (a : Fin 480) (b : Fin 256) :
    k0_pay66 v409 v505 (ix2 a b) = v505 (ix2 a b) * k0_pay62 v409 (ix2 a 0) := by
  unfold k0_pay66
  generalize k0_pay62 v409 = X0
  pointwise [gelu, lin, cent, scale, amax, clipRound]

/-- The second tile rounded and clipped. -/
theorem p67 (v507 : FVec Ideal S480x256 .f32) (a : Fin 480) (b : Fin 256) :
    k0_pay67 v507 (ix2 a b) = clipRound (v507 (ix2 a b)) := by
  pointwise [k0_pay67, gelu, lin, cent, scale, amax, clipRound]

/-- The codes of the second tile. -/
theorem p68 (v507 : FVec Ideal S480x256 .f32) (b : Fin 10) (c : Fin 48) (d : Fin 256) :
    k0_pay68 v507 (ix4 0 b c d) = Ideal.fptosi 8 (k0_pay67 v507 (ix2 ⟨b.val * 48 + c.val, by omega⟩ d)) := by
  unfold k0_pay68
  generalize k0_pay67 v507 = X0
  pointwise [gelu, lin, cent, scale, amax, clipRound]
  rfl

/-- The third tile rounded and clipped. -/
theorem p69 (v486 : FVec Ideal S480x1 .f32) (v522 : Vec Ideal S480x256 .f32) (a : Fin 480) (b : Fin 256) :
    k0_pay69 v486 v522 (ix2 a b) = clipRound (v522 (ix2 a b) * v486 (ix2 a 0)) := by
  pointwise [k0_pay69, gelu, lin, cent, scale, amax, clipRound]

/-- The codes of the third tile. -/
theorem p70 (v486 : FVec Ideal S480x1 .f32) (v522 : Vec Ideal S480x256 .f32) (b : Fin 10) (c : Fin 48) (d : Fin 256) :
    k0_pay70 v486 v522 (ix4 0 b c d) = Ideal.fptosi 8 (k0_pay69 v486 v522 (ix2 ⟨b.val * 48 + c.val, by omega⟩ d)) := by
  unfold k0_pay70
  generalize k0_pay69 v486 v522 = X0
  pointwise [gelu, lin, cent, scale, amax, clipRound]
  rfl

/-- The sum after three products. -/
theorem p71 (v486 : FVec Ideal S480x1 .f32) (v504 : FVec Ideal S480x384 .f32) (v507 : FVec Ideal S480x256 .f32) (v519 : Vec Ideal S256x384 .bf16) (v522 : Vec Ideal S480x256 .f32) (v536 : Vec Ideal S256x384 .bf16) (a : Fin 480) (b : Fin 384) :
    k0_pay71 v486 v504 v507 v519 v522 v536 (ix2 a b) = v504 (ix2 a b) + ∑ x, k0_pay67 v507 (ix2 a x) * v519 (ix2 x b) + ∑ x, k0_pay69 v486 v522 (ix2 a x) * v536 (ix2 x b) := by
  unfold k0_pay71
  generalize k0_pay67 v507 = X0
  generalize k0_pay69 v486 v522 = X1
  pointwise [gelu, lin, cent, scale, amax, clipRound]

/-- The fourth tile rounded. -/
theorem p72 (v486 : FVec Ideal S480x1 .f32) (v539 : Vec Ideal S480x256 .f32) (a : Fin 480) (b : Fin 256) :
    k0_pay72 v486 v539 (ix2 a b) = Ideal.liftRound Ideal.roundHalfEven (v539 (ix2 a b) * v486 (ix2 a 0)) := by
  pointwise [k0_pay72, gelu, lin, cent, scale, amax, clipRound]

/-- The fourth tile clipped. -/
theorem p73 (v542 : FVec Ideal S480x256 .f32) (cst_202 : Ideal .f32) (a : Fin 480) (b : Fin 256) :
    k0_pay73 v542 cst_202 (ix2 a b) = min (Ideal.ofBits .f32 0x42FE0000#32) (max cst_202 (v542 (ix2 a b))) := by
  pointwise [k0_pay73, gelu, lin, cent, scale, amax, clipRound]

/-- The codes of the fourth tile. -/
theorem p74 (v542 : FVec Ideal S480x256 .f32) (cst_202 : Ideal .f32) (b : Fin 10) (c : Fin 48) (d : Fin 256) :
    k0_pay74 v542 cst_202 (ix4 0 b c d) = Ideal.fptosi 8 (k0_pay73 v542 cst_202 (ix2 ⟨b.val * 48 + c.val, by omega⟩ d)) := by
  unfold k0_pay74
  generalize k0_pay73 v542 cst_202 = X0
  pointwise [gelu, lin, cent, scale, amax, clipRound]
  rfl

/-- The fifth tile rounded and clipped. -/
theorem p75 (v486 : FVec Ideal S480x1 .f32) (v556 : Vec Ideal S480x256 .f32) (a : Fin 480) (b : Fin 256) :
    k0_pay75 v486 v556 (ix2 a b) = clipRound (v556 (ix2 a b) * v486 (ix2 a 0)) := by
  pointwise [k0_pay75, gelu, lin, cent, scale, amax, clipRound]

/-- The codes of the fifth tile. -/
theorem p76 (v486 : FVec Ideal S480x1 .f32) (v556 : Vec Ideal S480x256 .f32) (b : Fin 10) (c : Fin 48) (d : Fin 256) :
    k0_pay76 v486 v556 (ix4 0 b c d) = Ideal.fptosi 8 (k0_pay75 v486 v556 (ix2 ⟨b.val * 48 + c.val, by omega⟩ d)) := by
  unfold k0_pay76
  generalize k0_pay75 v486 v556 = X0
  pointwise [gelu, lin, cent, scale, amax, clipRound]
  rfl

/-- The sum after five products. -/
theorem p77 (v486 : FVec Ideal S480x1 .f32) (v538 : FVec Ideal S480x384 .f32) (v542 : FVec Ideal S480x256 .f32) (cst_202 : Ideal .f32) (v553 : Vec Ideal S256x384 .bf16) (v556 : Vec Ideal S480x256 .f32) (v570 : Vec Ideal S256x384 .bf16) (a : Fin 480) (b : Fin 384) :
    k0_pay77 v486 v538 v542 cst_202 v553 v556 v570 (ix2 a b) = v538 (ix2 a b) + ∑ x, k0_pay73 v542 cst_202 (ix2 a x) * v553 (ix2 x b) + ∑ x, k0_pay75 v486 v556 (ix2 a x) * v570 (ix2 x b) := by
  unfold k0_pay77
  generalize k0_pay73 v542 cst_202 = X0
  generalize k0_pay75 v486 v556 = X1
  pointwise [gelu, lin, cent, scale, amax, clipRound]

/-- The sixth tile rounded. -/
theorem p78 (v486 : FVec Ideal S480x1 .f32) (v573 : Vec Ideal S480x256 .f32) (a : Fin 480) (b : Fin 256) :
    k0_pay78 v486 v573 (ix2 a b) = Ideal.liftRound Ideal.roundHalfEven (v573 (ix2 a b) * v486 (ix2 a 0)) := by
  pointwise [k0_pay78, gelu, lin, cent, scale, amax, clipRound]

/-- The lower bound of the clip. -/
theorem p79 (a : Fin 480) (b : Fin 256) :
    k0_pay79  (ix2 a b) = Ideal.ofBits .f32 0xC2FE0000#32 := by
  pointwise [k0_pay79, gelu, lin, cent, scale, amax, clipRound]

/-- The sixth tile clipped. -/
theorem p80 (v576 : FVec Ideal S480x256 .f32) (cst_225 : Ideal .f32) (v577 : FVec Ideal S480x256 .f32) (a : Fin 480) (b : Fin 256) :
    k0_pay80 v576 cst_225 v577 (ix2 a b) = min cst_225 (max (v577 (ix2 a b)) (v576 (ix2 a b))) := by
  pointwise [k0_pay80, gelu, lin, cent, scale, amax, clipRound]

/-- The codes of the sixth tile. -/
theorem p81 (v576 : FVec Ideal S480x256 .f32) (cst_225 : Ideal .f32) (v577 : FVec Ideal S480x256 .f32) (b : Fin 10) (c : Fin 48) (d : Fin 256) :
    k0_pay81 v576 cst_225 v577 (ix4 0 b c d) = Ideal.fptosi 8 (k0_pay80 v576 cst_225 v577 (ix2 ⟨b.val * 48 + c.val, by omega⟩ d)) := by
  unfold k0_pay81
  generalize k0_pay80 v576 cst_225 v577 = X0
  pointwise [gelu, lin, cent, scale, amax, clipRound]
  rfl

/-- A gain, at a channel. -/
theorem p82 (v600 : Vec Ideal S1x384 .f32) (b : Fin 384) :
    k0_pay82 v600 (ix2 0 b) = v600 (ix2 0 b) := by
  pointwise [k0_pay82, gelu, lin, cent, scale, amax, clipRound]

/-- An offset, at a channel. -/
theorem p83 (v602 : Vec Ideal S1x384 .f32) (b : Fin 384) :
    k0_pay83 v602 (ix2 0 b) = v602 (ix2 0 b) := by
  pointwise [k0_pay83, gelu, lin, cent, scale, amax, clipRound]

/-- The second layer's row, centred. -/
theorem p84 (v409 : FVec Ideal S480x1 .f32) (v572 : FVec Ideal S480x384 .f32) (v576 : FVec Ideal S480x256 .f32) (cst_225 : Ideal .f32) (v577 : FVec Ideal S480x256 .f32) (v587 : Vec Ideal S256x384 .bf16) (v592 : Vec Ideal S1x384 .f32) (v596 : Vec Ideal S1x384 .f32) (a : Fin 480) (b : Fin 384) :
    k0_pay84 v409 v572 v576 cst_225 v577 v587 v592 v596 (ix2 a b) = cent (fun k => (v572 (ix2 a k) + ∑ x, k0_pay80 v576 cst_225 v577 (ix2 a x) * v587 (ix2 x k)) * v409 (ix2 a 0) * v592 (ix2 0 k) + v596 (ix2 0 k)) b := by
  unfold k0_pay84
  generalize k0_pay80 v576 cst_225 v577 = X0
  pointwise [gelu, lin, cent, scale, amax, clipRound]

/-- The second layer's variance. -/
theorem p85 (v409 : FVec Ideal S480x1 .f32) (v572 : FVec Ideal S480x384 .f32) (v576 : FVec Ideal S480x256 .f32) (cst_225 : Ideal .f32) (v577 : FVec Ideal S480x256 .f32) (v587 : Vec Ideal S256x384 .bf16) (v592 : Vec Ideal S1x384 .f32) (v596 : Vec Ideal S1x384 .f32) (a : Fin 480) :
    k0_pay85 v409 v572 v576 cst_225 v577 v587 v592 v596 (ix2 a 0) = varEps (fun k => k0_pay84 v409 v572 v576 cst_225 v577 v587 v592 v596 (ix2 a k)) := by
  unfold k0_pay85
  generalize k0_pay84 v409 v572 v576 cst_225 v577 v587 v592 v596 = X0
  pointwise [gelu, lin, cent, scale, amax, clipRound]
  rfl

/-- The result, at an index. -/
theorem p1 (v127 : FVec Ideal S480x384 .f32) (v601 : FVec Ideal S1x384 .f32) (v603 : FVec Ideal S1x384 .f32) (v609 : FVec Ideal S480x384 .f32) (v616 : FVec Ideal S480x1 .f32) (b : Fin 10) (c : Fin 48) (d : Fin 384) :
    k0_pay1 v127 v601 v603 v609 v616 (ix4 0 b c d) = v127 (ix2 ⟨b.val * 48 + c.val, by omega⟩ d) + (v609 (ix2 ⟨b.val * 48 + c.val, by omega⟩ d) * Ideal.rsqrt (v616 (ix2 ⟨b.val * 48 + c.val, by omega⟩ 0)) * v601 (ix2 0 d) + v603 (ix2 0 d)) := by
  pointwise [k0_pay1, gelu, lin, cent, scale, amax, clipRound]

end Cert.KernelIdeal.Row
-- ==== Proof.KCols.lean ====
module

public import proofs.«01_k».proof.Proof.Body
public import proofs.«01_k».proof.Proof.Arith
/-! # The columns of scales

The body reads the scales of its ten columns out of a block of 48 by 60 by masked sums, and writes the ten columns of new
scales into such a block by masked selects. -/
set_option maxRecDepth 16384
@[expose] public noncomputable section
namespace Cert.KernelIdeal.Row
open Cert.KernelIdeal Cert.KernelIdeal.Gen Cert.KernelIdeal.Body Cert.Mlp Idealize.ShloMosaic Idealize.ShloMosaic.TcCoe Idealize.SL.Sem
open scoped BigOperators
/-- A conditional both of whose branches are `c`. -/
theorem dite_of {α : Type} {p : Prop} [Decidable p] {a : p → α} {b : ¬p → α} {c : α} (h1 : ∀ h, a h = c) (h2 : ∀ h, b h = c) : dite p a b = c := by
  by_cases h : p
  · rw [dif_pos h, h1]
  · rw [dif_neg h, h2]

/-- Ten columns of 48 stacked: row `48 c + l` is entry `l` of column `c`. -/
theorem stack (v18 v25 v32 v39 v46 v53 v60 v67 v74 v81 : FVec Ideal S48x1 .f32) (f : Fin 480 → EReal)
    (h0 : ∀ l : Fin 48, v18 (ix2 l 0) = f ⟨l, by omega⟩) (h1 : ∀ l : Fin 48, v25 (ix2 l 0) = f ⟨48 + l, by omega⟩)
    (h2 : ∀ l : Fin 48, v32 (ix2 l 0) = f ⟨96 + l, by omega⟩) (h3 : ∀ l : Fin 48, v39 (ix2 l 0) = f ⟨144 + l, by omega⟩)
    (h4 : ∀ l : Fin 48, v46 (ix2 l 0) = f ⟨192 + l, by omega⟩) (h5 : ∀ l : Fin 48, v53 (ix2 l 0) = f ⟨240 + l, by omega⟩)
    (h6 : ∀ l : Fin 48, v60 (ix2 l 0) = f ⟨288 + l, by omega⟩) (h7 : ∀ l : Fin 48, v67 (ix2 l 0) = f ⟨336 + l, by omega⟩)
    (h8 : ∀ l : Fin 48, v74 (ix2 l 0) = f ⟨384 + l, by omega⟩) (h9 : ∀ l : Fin 48, v81 (ix2 l 0) = f ⟨432 + l, by omega⟩) (r : Fin 480) :
    concatenate S480x1 0 [⟨S48x1, v18⟩, ⟨S48x1, v25⟩, ⟨S48x1, v32⟩, ⟨S48x1, v39⟩, ⟨S48x1, v46⟩, ⟨S48x1, v53⟩, ⟨S48x1, v60⟩, ⟨S48x1, v67⟩, ⟨S48x1, v74⟩, ⟨S48x1, v81⟩] concatenates_S48x1_S48x1_S48x1_S48x1_S48x1_S48x1_S48x1_S48x1_S48x1_S48x1_S480x1_d0 (ix2 r 0) = f r := by
  pointwise
  simp only [h0, h1, h2, h3, h4, h5, h6, h7, h8, h9]
  have hr := r.isLt
  iterate 9 refine dite_of (fun h => congrArg f (Fin.ext (by dsimp only <;> omega))) (fun _ => ?_)
  exact congrArg f (Fin.ext (by dsimp only <;> omega))

/-- The block of scales after ten selects: lane `10 g + c` takes the rows `48 c + l` of the column, the others stay. -/
theorem put_mid (w : BitVec 32) (g : ℕ) (hg : g < 6) (hw : w = Scalar.muli (BitVec.ofNat 32 g) 10#32) (v136 : FVec Ideal S480x1 .f32) (cur : FVec Ideal S48x60 .f32) (c0 : IVec S48x60 1) (c1 : FVec Ideal S48x1 .f32)
   (hc0 : ∀ (l : Fin 48) (n : Fin 60), c0 (ix2 l n) = IntOp.cmpi CmpIPredicate.eq (BitVec.ofNat 32 n) (Scalar.addi w 0#32))
   (hc1 : ∀ (l : Fin 48), c1 (ix2 l 0) = v136 (ix2 ⟨l.val, by omega⟩ 0)) (l : Fin 48) (n : Fin 60) :
    k0_pay32 lon w v136 (k0_pay31 lon w v136 cur c0 c1) 8#32 (ix3 0 l n) = if h : n.val / 10 = g then v136 (ix2 ⟨48 * (n.val % 10) + l.val, by omega⟩ 0) else cur (ix2 l n) := by
  unfold k0_pay32 k0_pay31
  pointwise
  rw [hc0, hc1, hw]
  simp only [lane_word]
  rw [sel_lane _ _ (by omega) (by omega), sel_lane _ _ (by omega) (by omega), sel_lane _ _ (by omega) (by omega), sel_lane _ _ (by omega) (by omega), sel_lane _ _ (by omega) (by omega),
   sel_lane _ _ (by omega) (by omega), sel_lane _ _ (by omega) (by omega), sel_lane _ _ (by omega) (by omega), sel_lane _ _ (by omega) (by omega), sel_lane _ _ (by omega) (by omega)]
  have e : ∀ k (hk : k < 480), k = 48 * (n.val % 10) + l.val → v136 (ix2 ⟨48 * (n.val % 10) + l.val, by omega⟩ 0) = v136 (ix2 ⟨k, hk⟩ 0) := fun k hk h => congrArg (fun z => v136 (ix2 z 0)) (Fin.ext h.symm)
  by_cases h : n.val / 10 = g
  · rw [dif_pos h]
    obtain ⟨c, hc⟩ : ∃ c, c = n.val % 10 := ⟨_, rfl⟩
    have hc' : c < 10 := by omega
    interval_cases c
    · iterate 9 rw [if_neg (by omega)]
      rw [if_pos (by omega)]; exact (e _ _ (by omega)).symm
    · iterate 8 rw [if_neg (by omega)]
      rw [if_pos (by omega)]; exact (e _ _ (by omega)).symm
    · iterate 7 rw [if_neg (by omega)]
      rw [if_pos (by omega)]; exact (e _ _ (by omega)).symm
    · iterate 6 rw [if_neg (by omega)]
      rw [if_pos (by omega)]; exact (e _ _ (by omega)).symm
    · iterate 5 rw [if_neg (by omega)]
      rw [if_pos (by omega)]; exact (e _ _ (by omega)).symm
    · iterate 4 rw [if_neg (by omega)]
      rw [if_pos (by omega)]; exact (e _ _ (by omega)).symm
    · iterate 3 rw [if_neg (by omega)]
      rw [if_pos (by omega)]; exact (e _ _ (by omega)).symm
    · iterate 2 rw [if_neg (by omega)]
      rw [if_pos (by omega)]; exact (e _ _ (by omega)).symm
    · rw [if_neg (by omega), if_pos (by omega)]; exact (e _ _ (by omega)).symm
    · rw [if_pos (by omega)]; exact (e _ _ (by omega)).symm
  · rw [dif_neg h]
    iterate 10 rw [if_neg (by omega)]

/-- The same for the hidden layer's scales. -/
theorem put_hid (w : BitVec 32) (g : ℕ) (hg : g < 6) (hw : w = Scalar.muli (BitVec.ofNat 32 g) 10#32) (v136 : FVec Ideal S480x1 .f32) (cur : FVec Ideal S48x60 .f32) (c0 : IVec S48x60 1) (c1 : FVec Ideal S48x1 .f32)
   (hc0 : ∀ (l : Fin 48) (n : Fin 60), c0 (ix2 l n) = IntOp.cmpi CmpIPredicate.eq (BitVec.ofNat 32 n) (Scalar.addi w 0#32))
   (hc1 : ∀ (l : Fin 48), c1 (ix2 l 0) = v136 (ix2 ⟨l.val, by omega⟩ 0)) (l : Fin 48) (n : Fin 60) :
    k0_pay61 lon w v136 (k0_pay60 lon w v136 cur c0 c1) (Scalar.addi w 8#32) (ix3 0 l n) = if h : n.val / 10 = g then v136 (ix2 ⟨48 * (n.val % 10) + l.val, by omega⟩ 0) else cur (ix2 l n) := by
  unfold k0_pay61 k0_pay60
  pointwise
  rw [hc0, hc1, hw]
  simp only [lane_word]
  rw [sel_lane _ _ (by omega) (by omega), sel_lane _ _ (by omega) (by omega), sel_lane _ _ (by omega) (by omega), sel_lane _ _ (by omega) (by omega), sel_lane _ _ (by omega) (by omega),
   sel_lane _ _ (by omega) (by omega), sel_lane _ _ (by omega) (by omega), sel_lane _ _ (by omega) (by omega), sel_lane _ _ (by omega) (by omega), sel_lane _ _ (by omega) (by omega)]
  have e : ∀ k (hk : k < 480), k = 48 * (n.val % 10) + l.val → v136 (ix2 ⟨48 * (n.val % 10) + l.val, by omega⟩ 0) = v136 (ix2 ⟨k, hk⟩ 0) := fun k hk h => congrArg (fun z => v136 (ix2 z 0)) (Fin.ext h.symm)
  by_cases h : n.val / 10 = g
  · rw [dif_pos h]
    obtain ⟨c, hc⟩ : ∃ c, c = n.val % 10 := ⟨_, rfl⟩
    have hc' : c < 10 := by omega
    interval_cases c
    · iterate 9 rw [if_neg (by omega)]
      rw [if_pos (by omega)]; exact (e _ _ (by omega)).symm
    · iterate 8 rw [if_neg (by omega)]
      rw [if_pos (by omega)]; exact (e _ _ (by omega)).symm
    · iterate 7 rw [if_neg (by omega)]
      rw [if_pos (by omega)]; exact (e _ _ (by omega)).symm
    · iterate 6 rw [if_neg (by omega)]
      rw [if_pos (by omega)]; exact (e _ _ (by omega)).symm
    · iterate 5 rw [if_neg (by omega)]
      rw [if_pos (by omega)]; exact (e _ _ (by omega)).symm
    · iterate 4 rw [if_neg (by omega)]
      rw [if_pos (by omega)]; exact (e _ _ (by omega)).symm
    · iterate 3 rw [if_neg (by omega)]
      rw [if_pos (by omega)]; exact (e _ _ (by omega)).symm
    · iterate 2 rw [if_neg (by omega)]
      rw [if_pos (by omega)]; exact (e _ _ (by omega)).symm
    · rw [if_neg (by omega), if_pos (by omega)]; exact (e _ _ (by omega)).symm
    · rw [if_pos (by omega)]; exact (e _ _ (by omega)).symm
  · rw [dif_neg h]
    iterate 10 rw [if_neg (by omega)]

variable (i : grid0.Coords) (os : Vec Ideal S1x48x60 .f32) (l : Fin 48)

/-- The grid's second coordinate counts six groups of ten columns. -/
theorem g6 : (i 1).val < 6 := (i 1).isLt

/-- Column 0 of the group's scales. -/
theorem s8 : k0_pay8 i os (ix2 l 0) = os (ix3 0 l ⟨10 * (i 1).val + 0, by have := g6 i; omega⟩) := by
  have hg := g6 i
  unfold k0_pay8 k0_pay7
  pointwise
  rw [lane_word (i 1).val 0]
  exact sum_lane (fun x => os (ix3 0 l x)) ⟨10 * (i 1).val + 0, by omega⟩

/-- Column 1 of the group's scales. -/
theorem s9 : k0_pay9 i os (ix2 l 0) = os (ix3 0 l ⟨10 * (i 1).val + 1, by have := g6 i; omega⟩) := by
  have hg := g6 i
  unfold k0_pay9 k0_pay7
  pointwise
  rw [lane_word (i 1).val 1]
  exact sum_lane (fun x => os (ix3 0 l x)) ⟨10 * (i 1).val + 1, by omega⟩

/-- Column 2 of the group's scales. -/
theorem s10 : k0_pay10 i os (ix2 l 0) = os (ix3 0 l ⟨10 * (i 1).val + 2, by have := g6 i; omega⟩) := by
  have hg := g6 i
  unfold k0_pay10 k0_pay7
  pointwise
  rw [lane_word (i 1).val 2]
  exact sum_lane (fun x => os (ix3 0 l x)) ⟨10 * (i 1).val + 2, by omega⟩

/-- Column 3 of the group's scales. -/
theorem s12 : k0_pay12 (k0_pay7 os) (k0_pay11 i) (FloatOps.ofBits FTy.f32 0#32) (ix2 l 0) = os (ix3 0 l ⟨10 * (i 1).val + 3, by have := g6 i; omega⟩) := by
  have hg := g6 i
  unfold k0_pay12 k0_pay7 k0_pay11
  pointwise
  rw [lane_word (i 1).val 3]
  exact sum_lane (fun x => os (ix3 0 l x)) ⟨10 * (i 1).val + 3, by omega⟩

/-- Column 4 of the group's scales. -/
theorem s13 : k0_pay13 lon (first i) (k0_pay7 os) (ix2 l 0) = os (ix3 0 l ⟨10 * (i 1).val + 4, by have := g6 i; omega⟩) := by
  have hg := g6 i
  unfold k0_pay13 k0_pay7 lon first
  pointwise
  rw [lane_word (i 1).val 4]
  exact sum_lane (fun x => os (ix3 0 l x)) ⟨10 * (i 1).val + 4, by omega⟩

/-- Column 5 of the group's scales. -/
theorem s14 : k0_pay14 lon (first i) (k0_pay7 os) (ix2 l 0) = os (ix3 0 l ⟨10 * (i 1).val + 5, by have := g6 i; omega⟩) := by
  have hg := g6 i
  unfold k0_pay14 k0_pay7 lon first
  pointwise
  rw [lane_word (i 1).val 5]
  exact sum_lane (fun x => os (ix3 0 l x)) ⟨10 * (i 1).val + 5, by omega⟩

/-- Column 6 of the group's scales. -/
theorem s15 : k0_pay15 lon (first i) (k0_pay7 os) (ix2 l 0) = os (ix3 0 l ⟨10 * (i 1).val + 6, by have := g6 i; omega⟩) := by
  have hg := g6 i
  unfold k0_pay15 k0_pay7 lon first
  pointwise
  rw [lane_word (i 1).val 6]
  exact sum_lane (fun x => os (ix3 0 l x)) ⟨10 * (i 1).val + 6, by omega⟩

/-- Column 7 of the group's scales. -/
theorem s16 : k0_pay16 lon (first i) (k0_pay7 os) (ix2 l 0) = os (ix3 0 l ⟨10 * (i 1).val + 7, by have := g6 i; omega⟩) := by
  have hg := g6 i
  unfold k0_pay16 k0_pay7 lon first
  pointwise
  rw [lane_word (i 1).val 7]
  exact sum_lane (fun x => os (ix3 0 l x)) ⟨10 * (i 1).val + 7, by omega⟩

/-- Column 8 of the group's scales. -/
theorem s17 : k0_pay17 lon (first i) (k0_pay7 os) (ix2 l 0) = os (ix3 0 l ⟨10 * (i 1).val + 8, by have := g6 i; omega⟩) := by
  have hg := g6 i
  unfold k0_pay17 k0_pay7 lon first
  pointwise
  rw [lane_word (i 1).val 8]
  exact sum_lane (fun x => os (ix3 0 l x)) ⟨10 * (i 1).val + 8, by omega⟩

end Cert.KernelIdeal.Row
-- ==== Proof.KRow.lean ====
module

public import proofs.«01_k».proof.Proof.Body
public import proofs.«01_k».proof.Proof.KPay
public import proofs.«01_k».proof.Proof.KCols
/-! # One grid point's values, row by row

Row `48 c + l` of a grid point is the token of column `10 g + c` and line `l`, where `g` is the group of ten columns the point
works on. The kernel's values at that row are the functions of `Row` at that token's data. -/
set_option maxRecDepth 16384
@[expose] public noncomputable section
namespace Cert.KernelIdeal.Row
open Cert.KernelIdeal Cert.KernelIdeal.Gen Cert.KernelIdeal.Body Cert.Mlp Idealize.ShloMosaic Idealize.ShloMosaic.TcCoe Idealize.SL.Sem
open scoped BigOperators
/-- The projection of a row, centred, when the stacked columns of scales are `f`. -/
theorem q22 (v11 : FVec Ideal S48x60 .f32) (v18 v25 v32 v39 v46 v53 v60 v67 v74 : FVec Ideal S48x1 .f32) (v77 : IVec S48x60 1) (z : Ideal .f32) (oc : Vec Ideal S1x10x48x384 .i8) (wp : Vec Ideal S384x384 .bf16) (sp bp : Vec Ideal S1x384 .f32)
   (f : Fin 480 → EReal) (V : FVec Ideal S480x1 .f32) (hV : ∀ r : Fin 480, V (ix2 r 0) = f r)
   (h : concatenate S480x1 0 [⟨S48x1, v18⟩, ⟨S48x1, v25⟩, ⟨S48x1, v32⟩, ⟨S48x1, v39⟩, ⟨S48x1, v46⟩, ⟨S48x1, v53⟩, ⟨S48x1, v60⟩, ⟨S48x1, v67⟩, ⟨S48x1, v74⟩, ⟨S48x1, shapeCast S48x1 (multiReduction .add [1] S48 (select v77 v11 (broadcast S48x60 z)) 0x00000000#32 reduces_S48x60_S48 (.inl rfl) rfl) shapeCasts_S48_S48x1⟩] concatenates_S48x1_S48x1_S48x1_S48x1_S48x1_S48x1_S48x1_S48x1_S48x1_S48x1_S480x1_d0 = V) (r : Fin 480) (k : Fin 384) :
  k0_pay22 v11 v18 v25 v32 v39 v46 v53 v60 v67 v74 v77 z oc wp sp bp (ix2 r k) = cent (lin (fun c => codeVal (oc (ix4 0 ⟨r.val / 48, by omega⟩ ⟨r.val % 48, by omega⟩ c))) (f r) (fun c k => wp (ix2 c k)) (fun k => sp (ix2 0 k)) (fun k => bp (ix2 0 k))) k := by
  unfold k0_pay22
  simp only [h]
  clear h
  pointwise [cent, lin]
  simp only [hV]
  rfl

/-- Column 9 of the group's scales. -/
theorem last_col (i : grid0.Coords) (os : Vec Ideal S1x48x60 .f32) (l : Fin 48) :
  shapeCast S48x1 (multiReduction .add [1] S48 (select (k0_pay18 lon (first i)) (k0_pay7 os) (broadcast S48x60 (FloatOps.ofBits (F := Ideal) FTy.f32 0#32))) 0x00000000#32 reduces_S48x60_S48 (.inl rfl) rfl) shapeCasts_S48_S48x1 (ix2 l 0) = os (ix3 0 l ⟨10 * (i 1).val + 9, by have : (i 1).val < 6 := (i 1).isLt; omega⟩) := by
  have hg : (i 1).val < 6 := (i 1).isLt
  unfold k0_pay18 k0_pay7 lon first
  pointwise
  rw [lane_word (i 1).val 9]
  exact sum_lane (fun x => os (ix3 0 l x)) ⟨10 * (i 1).val + 9, by omega⟩

/-- Equal coordinates, equal indices. -/
theorem ix3_eq {a b c : ℕ} {x x' : Fin a} {y y' : Fin b} {z z' : Fin c} (hx : x = x') (hy : y = y') (hz : z = z') : ix3 x y z = ix3 x' y' z' := by
  subst hx hy hz
  rfl

variable (i : grid0.Coords) (B : Blk) (r : Fin 480)

/-- The scale of the attention codes of row `r`. -/
def rT : EReal := B.os (ix3 0 ⟨r.val % 48, by omega⟩ ⟨10 * (i 1).val + r.val / 48, by have := g6 i; omega⟩)

/-- The projection of row `r`. -/
def rLin : Fin 384 → EReal :=
  lin (fun c => codeVal (B.oc (ix4 0 ⟨r.val / 48, by omega⟩ ⟨r.val % 48, by omega⟩ c))) (rT i B r) (fun c k => B.wp (ix2 c k))
    (fun k => B.sp (ix2 0 k)) (fun k => B.bp (ix2 0 k))

/-- Row `r` after the attention's residual. -/
def rU : Fin 384 → EReal :=
  resid (fun k => B.x (ix4 0 ⟨r.val / 48, by omega⟩ ⟨r.val % 48, by omega⟩ k)) (rLin i B r) (fun k => B.g1 (ix2 0 k)) (fun k => B.be1 (ix2 0 k))

/-- The hidden layer of row `r`. -/
def rH : Fin 1536 → EReal :=
  hidden (rU i B r) (fun c k => B.w1 (ix2 c k)) (fun k => B.s1 (ix2 0 k)) (fun k => B.b1 (ix2 0 k))

/-- The second layer of row `r`. -/
def rF : Fin 384 → EReal :=
  second (rH i B r) (fun c k => B.w2 (ix2 c k)) (fun k => B.s2 (ix2 0 k)) (fun k => B.b2 (ix2 0 k))

/-- The result of row `r`. -/
def rY : Fin 384 → EReal := resid (rU i B r) (rF i B r) (fun k => B.g2 (ix2 0 k)) (fun k => B.be2 (ix2 0 k))

/-- The centred projection. -/
theorem kC_at (k : Fin 384) : kC i B (ix2 r k) = cent (rLin i B r) k := by
  unfold kC
  refine q22 _ _ _ _ _ _ _ _ _ _ _ _ _ _ _ _ (rT i B) _ (fun r => stack _ _ _ _ _ _ _ _ _ _ (rT i B) ?_ ?_ ?_ ?_ ?_ ?_ ?_ ?_ ?_ ?_ r) rfl r k
  · intro l
    rw [s8]
    exact congrArg B.os (ix3_eq (by rfl) (Fin.ext (by dsimp only <;> omega)) (Fin.ext (by dsimp only <;> omega)))
  · intro l
    rw [s9]
    exact congrArg B.os (ix3_eq (by rfl) (Fin.ext (by dsimp only <;> omega)) (Fin.ext (by dsimp only <;> omega)))
  · intro l
    rw [s10]
    exact congrArg B.os (ix3_eq (by rfl) (Fin.ext (by dsimp only <;> omega)) (Fin.ext (by dsimp only <;> omega)))
  · intro l
    rw [s12]
    exact congrArg B.os (ix3_eq (by rfl) (Fin.ext (by dsimp only <;> omega)) (Fin.ext (by dsimp only <;> omega)))
  · intro l
    rw [s13]
    exact congrArg B.os (ix3_eq (by rfl) (Fin.ext (by dsimp only <;> omega)) (Fin.ext (by dsimp only <;> omega)))
  · intro l
    rw [s14]
    exact congrArg B.os (ix3_eq (by rfl) (Fin.ext (by dsimp only <;> omega)) (Fin.ext (by dsimp only <;> omega)))
  · intro l
    rw [s15]
    exact congrArg B.os (ix3_eq (by rfl) (Fin.ext (by dsimp only <;> omega)) (Fin.ext (by dsimp only <;> omega)))
  · intro l
    rw [s16]
    exact congrArg B.os (ix3_eq (by rfl) (Fin.ext (by dsimp only <;> omega)) (Fin.ext (by dsimp only <;> omega)))
  · intro l
    rw [s17]
    exact congrArg B.os (ix3_eq (by rfl) (Fin.ext (by dsimp only <;> omega)) (Fin.ext (by dsimp only <;> omega)))
  · intro l
    rw [last_col]
    exact congrArg B.os (ix3_eq (by rfl) (Fin.ext (by dsimp only <;> omega)) (Fin.ext (by dsimp only <;> omega)))

/-- The sum of the centred projection's squares. -/
theorem kS_at : kS i B (ix1 r) = ∑ k, cent (rLin i B r) k * cent (rLin i B r) k := by
  have h : kS i B (ix1 r) = ∑ k, kC i B (ix2 r k) * kC i B (ix2 r k) := by
    unfold kS k0_pay23
    have e := kC.eq_1 i B
    simp only [← e]
    generalize kC i B = X
    pointwise
  rw [h]
  simp only [kC_at]

/-- The first residual. -/
theorem kX_at (k : Fin 384) : kX i B (ix2 r k) = rU i B r k := by
  unfold kX
  rw [p24, kC_at, kS_at, p19, p20, p21]
  show _ + (cent (rLin i B r) k * Ideal.rsqrt (varEps (cent (rLin i B r))) * _ + _) = _
  rw [mul_rsqrt]
  rfl

/-- The residual's row scale. -/
theorem kM_at : kM i B (ix2 r 0) = scale (amax (rU i B r)) := by
  unfold kM
  rw [p25]
  exact congrArg (fun f => scale (amax f)) (funext fun k => kX_at i B r k)

/-- The residual's rounded and clipped value, as a rounded quotient. -/
theorem kQ_clip (k : Fin 384) : kQ i B (ix2 r k) = clipRound (Ideal.div (rU i B r k) (scale (amax (rU i B r)))) := by
  unfold kQ
  rw [p26]
  have h1 : k0_pay24 (k0_pay19 B.x) (k0_pay20 B.g1) (k0_pay21 B.be1) (kC i B) (kS i B) (ix2 r k) = rU i B r k := kX_at i B r k
  have h2 : k0_pay25 (k0_pay19 B.x) (k0_pay20 B.g1) (k0_pay21 B.be1) (kC i B) (kS i B) (ix2 r 0) = scale (amax (rU i B r)) := kM_at i B r
  rw [h1, h2, mul_one_div]

/-- The residual's code, as a number. -/
theorem kQ_at (k : Fin 384) : kQ i B (ix2 r k) = codeVal (code (scale (amax (rU i B r))) (rU i B r k)) := by
  rw [kQ_clip, code, codeVal_clip]

/-- The residual's codes. -/
theorem kMc_at (b : Fin 10) (c : Fin 48) (d : Fin 384) :
    kMc i B (ix4 0 b c d) = code (scale (amax (rU i B ⟨b.val * 48 + c.val, by omega⟩))) (rU i B ⟨b.val * 48 + c.val, by omega⟩ d) := by
  unfold kMc
  rw [p27]
  have h := kQ_clip i B ⟨b.val * 48 + c.val, by omega⟩ d
  unfold kQ at h
  rw [h]
  rfl

/-- The block of the residual's scales after the ten selects. -/
theorem kMs_at (cur : FVec Ideal S1x48x60 .f32) (l : Fin 48) (n : Fin 60) :
    kMs i B cur (ix3 0 l n) = if n.val / 10 = (i 1).val then scale (amax (rU i B ⟨48 * (n.val % 10) + l.val, by omega⟩)) else cur (ix3 0 l n) := by
  unfold kMs
  refine (put_mid (first i) (i 1).val (g6 i) rfl (kM i B) _ _ _ (fun l n => ?_) (fun l => ?_) l n).trans ?_
  · pointwise [k0_pay29]
  · unfold k0_pay30
    have e := kM.eq_1 i B
    simp only [← e]
    generalize kM i B = X
    pointwise
  · have h : k0_pay28 cur (ix2 l n) = cur (ix3 0 l n) := by pointwise [k0_pay28]
    rw [h, kM_at]
    split_ifs <;> rfl

end Cert.KernelIdeal.Row
-- ==== Proof.KHid.lean ====
module

public import proofs.«01_k».proof.Proof.Body
public import proofs.«01_k».proof.Proof.KRow
/-! # One grid point's hidden layer and result, row by row

The hidden layer is computed in six tiles of 256 columns, its largest magnitude over slices of 128 lanes, and the second layer as
six partial products. Together they are the functions of `Row`. -/
set_option maxRecDepth 16384
@[expose] public noncomputable section
namespace Cert.KernelIdeal.Row
open Cert.KernelIdeal Cert.KernelIdeal.Gen Cert.KernelIdeal.Body Cert.Mlp Idealize.ShloMosaic Idealize.ShloMosaic.TcCoe Idealize.SL.Sem
open scoped BigOperators

variable (i : grid0.Coords) (B : Blk) (r : Fin 480)

/-- A tile's columns of the first layer: its values are the hidden row's. -/
theorem tile_row (q : Fin 384 → EReal) (t : EReal) (u : Fin 384 → EReal) (hq : ∀ c, q c = codeVal (code (scale (amax u)) (u c))) (ht : t = scale (amax u))
    (W : Fin 384 → Fin 1536 → EReal) (s b : Fin 1536 → EReal) (W' : Fin 384 → Fin 256 → EReal) (s' b' : Fin 256 → EReal) (k : Fin 256) (j : Fin 1536)
    (hW : ∀ c, W' c k = W c j) (hs : s' k = s j) (hb : b' k = b j) :
    gelu (lin q t W' s' b' k) = hidden u W s b j := by
  unfold Mlp.hidden lin
  simp only [hq, ht, hW, hs, hb]

/-- Columns 0 to 255 of the first layer's weights, scales and biases, and rows of the second layer's weights. -/
theorem ldw1_0 (c : Fin 384) (k : Fin 256) : w1c0 B (ix2 c k) = B.w1 (ix2 c ⟨k.val, by omega⟩) := by
  unfold w1c0
  pointwise
theorem lds1_0 (k : Fin 256) : s1c0 B (ix2 0 k) = B.s1 (ix2 0 ⟨k.val, by omega⟩) := by
  unfold s1c0
  pointwise
theorem ldb1_0 (k : Fin 256) : b1c0 B (ix2 0 k) = B.b1 (ix2 0 ⟨k.val, by omega⟩) := by
  unfold b1c0
  pointwise
theorem ldw2_0 (c : Fin 256) (k : Fin 384) : w2r0 B (ix2 c k) = B.w2 (ix2 ⟨c.val, by omega⟩ k) := by
  unfold w2r0
  pointwise

/-- Columns 256 to 511 of the first layer's weights, scales and biases, and rows of the second layer's weights. -/
theorem ldw1_1 (c : Fin 384) (k : Fin 256) : w1c1 B (ix2 c k) = B.w1 (ix2 c ⟨256 + k.val, by omega⟩) := by
  unfold w1c1
  pointwise
theorem lds1_1 (k : Fin 256) : s1c1 B (ix2 0 k) = B.s1 (ix2 0 ⟨256 + k.val, by omega⟩) := by
  unfold s1c1
  pointwise
theorem ldb1_1 (k : Fin 256) : b1c1 B (ix2 0 k) = B.b1 (ix2 0 ⟨256 + k.val, by omega⟩) := by
  unfold b1c1
  pointwise
theorem ldw2_1 (c : Fin 256) (k : Fin 384) : w2r1 B (ix2 c k) = B.w2 (ix2 ⟨256 + c.val, by omega⟩ k) := by
  unfold w2r1
  pointwise

/-- Columns 512 to 767 of the first layer's weights, scales and biases, and rows of the second layer's weights. -/
theorem ldw1_2 (c : Fin 384) (k : Fin 256) : w1c2 B (ix2 c k) = B.w1 (ix2 c ⟨512 + k.val, by omega⟩) := by
  unfold w1c2
  pointwise
theorem lds1_2 (k : Fin 256) : s1c2 B (ix2 0 k) = B.s1 (ix2 0 ⟨512 + k.val, by omega⟩) := by
  unfold s1c2
  pointwise
theorem ldb1_2 (k : Fin 256) : b1c2 B (ix2 0 k) = B.b1 (ix2 0 ⟨512 + k.val, by omega⟩) := by
  unfold b1c2
  pointwise
theorem ldw2_2 (c : Fin 256) (k : Fin 384) : w2r2 B (ix2 c k) = B.w2 (ix2 ⟨512 + c.val, by omega⟩ k) := by
  unfold w2r2
  pointwise

/-- Columns 768 to 1023 of the first layer's weights, scales and biases, and rows of the second layer's weights. -/
theorem ldw1_3 (c : Fin 384) (k : Fin 256) : w1c3 B (ix2 c k) = B.w1 (ix2 c ⟨768 + k.val, by omega⟩) := by
  unfold w1c3
  pointwise
theorem lds1_3 (k : Fin 256) : s1c3 B (ix2 0 k) = B.s1 (ix2 0 ⟨768 + k.val, by omega⟩) := by
  unfold s1c3
  pointwise
theorem ldb1_3 (k : Fin 256) : b1c3 B (ix2 0 k) = B.b1 (ix2 0 ⟨768 + k.val, by omega⟩) := by
  unfold b1c3
  pointwise
theorem ldw2_3 (c : Fin 256) (k : Fin 384) : w2r3 B (ix2 c k) = B.w2 (ix2 ⟨768 + c.val, by omega⟩ k) := by
  unfold w2r3
  pointwise

/-- Columns 1024 to 1279 of the first layer's weights, scales and biases, and rows of the second layer's weights. -/
theorem ldw1_4 (c : Fin 384) (k : Fin 256) : w1c4 B (ix2 c k) = B.w1 (ix2 c ⟨1024 + k.val, by omega⟩) := by
  unfold w1c4
  pointwise
theorem lds1_4 (k : Fin 256) : s1c4 B (ix2 0 k) = B.s1 (ix2 0 ⟨1024 + k.val, by omega⟩) := by
  unfold s1c4
  pointwise
theorem ldb1_4 (k : Fin 256) : b1c4 B (ix2 0 k) = B.b1 (ix2 0 ⟨1024 + k.val, by omega⟩) := by
  unfold b1c4
  pointwise
theorem ldw2_4 (c : Fin 256) (k : Fin 384) : w2r4 B (ix2 c k) = B.w2 (ix2 ⟨1024 + c.val, by omega⟩ k) := by
  unfold w2r4
  pointwise

/-- Columns 1280 to 1535 of the first layer's weights, scales and biases, and rows of the second layer's weights. -/
theorem ldw1_5 (c : Fin 384) (k : Fin 256) : w1c5 B (ix2 c k) = B.w1 (ix2 c ⟨1280 + k.val, by omega⟩) := by
  unfold w1c5
  pointwise
theorem lds1_5 (k : Fin 256) : s1c5 B (ix2 0 k) = B.s1 (ix2 0 ⟨1280 + k.val, by omega⟩) := by
  unfold s1c5
  pointwise
theorem ldb1_5 (k : Fin 256) : b1c5 B (ix2 0 k) = B.b1 (ix2 0 ⟨1280 + k.val, by omega⟩) := by
  unfold b1c5
  pointwise
theorem ldw2_5 (c : Fin 256) (k : Fin 384) : w2r5 B (ix2 c k) = B.w2 (ix2 ⟨1280 + c.val, by omega⟩ k) := by
  unfold w2r5
  pointwise

/-- Tile 0 of the hidden row. -/
theorem kT0_at (k : Fin 256) : kT0 i B (ix2 r k) = rH i B r ⟨k.val, by omega⟩ := by
  unfold kT0
  rw [p35]
  exact tile_row (fun c => kQ i B (ix2 r c)) _ (rU i B r) (fun c => kQ_at i B r c) (kM_at i B r) _ _ _ (fun c k => w1c0 B (ix2 c k)) (fun k => s1c0 B (ix2 0 k)) (fun k => b1c0 B (ix2 0 k)) k _
    (fun c => ldw1_0 B c k) (lds1_0 B k) (ldb1_0 B k)

/-- Tile 0 as it is stored. -/
theorem kL0_at (k : Fin 256) : kL0 i B (ix2 r k) = rH i B r ⟨k.val, by omega⟩ := by
  unfold kL0
  rw [p36]
  exact kT0_at i B r k

/-- Tile 1 of the hidden row. -/
theorem kT1_at (k : Fin 256) : kT1 i B (ix2 r k) = rH i B r ⟨256 + k.val, by omega⟩ := by
  unfold kT1
  rw [p37]
  exact tile_row (fun c => k0_pay33 (kQ i B) (ix2 r c)) _ (rU i B r) (fun c => (p33 _ r c).trans (kQ_at i B r c)) (kM_at i B r) _ _ _ (fun c k => w1c1 B (ix2 c k)) (fun k => s1c1 B (ix2 0 k)) (fun k => b1c1 B (ix2 0 k)) k _
    (fun c => ldw1_1 B c k) (lds1_1 B k) (ldb1_1 B k)

/-- Tile 1 as it is stored. -/
theorem kL1_at (k : Fin 256) : kL1 i B (ix2 r k) = rH i B r ⟨256 + k.val, by omega⟩ := by
  unfold kL1
  rw [p38]
  exact kT1_at i B r k

/-- Tile 2 of the hidden row. -/
theorem kT2_at (k : Fin 256) : kT2 i B (ix2 r k) = rH i B r ⟨512 + k.val, by omega⟩ := by
  unfold kT2
  rw [p42, p40, p41]
  exact tile_row (fun c => k0_pay33 (kQ i B) (ix2 r c)) _ (rU i B r) (fun c => (p33 _ r c).trans (kQ_at i B r c)) (kM_at i B r) _ _ _ (fun c k => w1c2 B (ix2 c k)) (fun k => s1c2 B (ix2 0 k)) (fun k => b1c2 B (ix2 0 k)) k _
    (fun c => ldw1_2 B c k) (lds1_2 B k) (ldb1_2 B k)

/-- Tile 2 as it is stored. -/
theorem kL2_at (k : Fin 256) : kL2 i B (ix2 r k) = rH i B r ⟨512 + k.val, by omega⟩ := by
  unfold kL2
  rw [p43]
  exact kT2_at i B r k

/-- Tile 3 of the hidden row. -/
theorem kT3_at (k : Fin 256) : kT3 i B (ix2 r k) = rH i B r ⟨768 + k.val, by omega⟩ := by
  unfold kT3
  rw [p48, p46, p47, p45]
  exact tile_row (fun c => k0_pay33 (kQ i B) (ix2 r c)) _ (rU i B r) (fun c => (p33 _ r c).trans (kQ_at i B r c)) (kM_at i B r) _ _ _ (fun c k => w1c3 B (ix2 c k)) (fun k => s1c3 B (ix2 0 k)) (fun k => b1c3 B (ix2 0 k)) k _
    (fun c => ldw1_3 B c k) (lds1_3 B k) (ldb1_3 B k)

/-- Tile 3 as it is stored. -/
theorem kL3_at (k : Fin 256) : kL3 i B (ix2 r k) = rH i B r ⟨768 + k.val, by omega⟩ := by
  unfold kL3
  rw [p49]
  exact kT3_at i B r k

/-- Tile 4 of the hidden row. -/
theorem kT4_at (k : Fin 256) : kT4 i B (ix2 r k) = rH i B r ⟨1024 + k.val, by omega⟩ := by
  unfold kT4
  rw [p50]
  exact tile_row (fun c => k0_pay33 (kQ i B) (ix2 r c)) _ (rU i B r) (fun c => (p33 _ r c).trans (kQ_at i B r c)) (kM_at i B r) _ _ _ (fun c k => w1c4 B (ix2 c k)) (fun k => s1c4 B (ix2 0 k)) (fun k => b1c4 B (ix2 0 k)) k _
    (fun c => ldw1_4 B c k) (lds1_4 B k) (ldb1_4 B k)

/-- Tile 4 as it is stored. -/
theorem kL4_at (k : Fin 256) : kL4 i B (ix2 r k) = rH i B r ⟨1024 + k.val, by omega⟩ := by
  unfold kL4
  rw [p51]
  exact kT4_at i B r k

/-- Tile 5 of the hidden row. -/
theorem kT5_at (k : Fin 256) : kT5 i B (ix2 r k) = rH i B r ⟨1280 + k.val, by omega⟩ := by
  unfold kT5
  rw [p54, p53]
  exact tile_row (fun c => k0_pay33 (kQ i B) (ix2 r c)) _ (rU i B r) (fun c => (p33 _ r c).trans (kQ_at i B r c)) (kM_at i B r) _ _ _ (fun c k => w1c5 B (ix2 c k)) (fun k => s1c5 B (ix2 0 k)) (fun k => b1c5 B (ix2 0 k)) k _
    (fun c => ldw1_5 B c k) (lds1_5 B k) (ldb1_5 B k)

/-- Tile 5 as it is stored. -/
theorem kL5_at (k : Fin 256) : kL5 i B (ix2 r k) = rH i B r ⟨1280 + k.val, by omega⟩ := by
  unfold kL5
  rw [p55]
  exact kT5_at i B r k

/-- The magnitudes of the hidden row. -/
def rA (j : Fin 1536) : EReal := max (rH i B r j) (-(rH i B r j))

/-- The magnitude of a tile's entry is the hidden row's. -/
theorem ab_at (X : FVec Ideal S480x256 .f32) (f : Fin 1536 → EReal) (k : Fin 256) (m : Fin 1536) (h : X (ix2 r k) = f m) :
    FloatOps.absf (F := Ideal) (φ := .f32) (X (ix2 r k)) = max (f m) (-(f m)) := by
  rw [h]
  rfl

/-- The magnitude of lane `b` of slice 0. -/
theorem ab0 (b : Fin 128) : FloatOps.absf (F := Ideal) (φ := .f32) (kT0 i B (ix2 r ⟨b.val, by omega⟩)) = rA i B r ⟨b.val, by omega⟩ :=
  ab_at r _ (rH i B r) _ _ ((kT0_at i B r ⟨b.val, by omega⟩).trans (congrArg (rH i B r) (Fin.ext (by dsimp only <;> omega))))

/-- The magnitude of lane `b` of slice 1. -/
theorem ab1 (b : Fin 128) : FloatOps.absf (F := Ideal) (φ := .f32) (kT0 i B (ix2 r ⟨128 + b.val, by omega⟩)) = rA i B r ⟨128 + b.val, by omega⟩ :=
  ab_at r _ (rH i B r) _ _ ((kT0_at i B r ⟨128 + b.val, by omega⟩).trans (congrArg (rH i B r) (Fin.ext (by dsimp only <;> omega))))

/-- The magnitude of lane `b` of slice 2. -/
theorem ab2 (b : Fin 128) : FloatOps.absf (F := Ideal) (φ := .f32) (k0_pay37 (kM i B) (k0_pay33 (kQ i B)) (w1c1 B) (s1c1 B) (b1c1 B) (ix2 r ⟨b.val, by omega⟩)) = rA i B r ⟨256 + b.val, by omega⟩ :=
  ab_at r _ (rH i B r) _ _ ((kT1_at i B r ⟨b.val, by omega⟩).trans (congrArg (rH i B r) (Fin.ext (by dsimp only <;> omega))))

/-- The magnitude of lane `b` of slice 3. -/
theorem ab3 (b : Fin 128) : FloatOps.absf (F := Ideal) (φ := .f32) (k0_pay37 (kM i B) (k0_pay33 (kQ i B)) (w1c1 B) (s1c1 B) (b1c1 B) (ix2 r ⟨128 + b.val, by omega⟩)) = rA i B r ⟨384 + b.val, by omega⟩ :=
  ab_at r _ (rH i B r) _ _ ((kT1_at i B r ⟨128 + b.val, by omega⟩).trans (congrArg (rH i B r) (Fin.ext (by dsimp only <;> omega))))

/-- The magnitude of lane `b` of slice 4. -/
theorem ab4 (b : Fin 128) : FloatOps.absf (F := Ideal) (φ := .f32) (k0_pay42 (k0_pay40 (kM i B) (k0_pay33 (kQ i B)) (w1c2 B)) (k0_pay41 (s1c2 B)) (b1c2 B) (ix2 r ⟨b.val, by omega⟩)) = rA i B r ⟨512 + b.val, by omega⟩ :=
  ab_at r _ (rH i B r) _ _ ((kT2_at i B r ⟨b.val, by omega⟩).trans (congrArg (rH i B r) (Fin.ext (by dsimp only <;> omega))))

/-- The magnitude of lane `b` of slice 5. -/
theorem ab5 (b : Fin 128) : FloatOps.absf (F := Ideal) (φ := .f32) (k0_pay42 (k0_pay40 (kM i B) (k0_pay33 (kQ i B)) (w1c2 B)) (k0_pay41 (s1c2 B)) (b1c2 B) (ix2 r ⟨128 + b.val, by omega⟩)) = rA i B r ⟨640 + b.val, by omega⟩ :=
  ab_at r _ (rH i B r) _ _ ((kT2_at i B r ⟨128 + b.val, by omega⟩).trans (congrArg (rH i B r) (Fin.ext (by dsimp only <;> omega))))

/-- The magnitude of lane `b` of slice 6. -/
theorem ab6 (b : Fin 128) : FloatOps.absf (F := Ideal) (φ := .f32) (k0_pay48 (k0_pay46 (kM i B) (k0_pay33 (kQ i B)) (w1c3 B) (s1c3 B) (b1c3 B)) (k0_pay47 (kM i B) (k0_pay33 (kQ i B)) (w1c3 B) (s1c3 B) (b1c3 B)) (ix2 r ⟨b.val, by omega⟩)) = rA i B r ⟨768 + b.val, by omega⟩ :=
  ab_at r _ (rH i B r) _ _ ((kT3_at i B r ⟨b.val, by omega⟩).trans (congrArg (rH i B r) (Fin.ext (by dsimp only <;> omega))))

/-- The magnitude of lane `b` of slice 7. -/
theorem ab7 (b : Fin 128) : FloatOps.absf (F := Ideal) (φ := .f32) (k0_pay48 (k0_pay46 (kM i B) (k0_pay33 (kQ i B)) (w1c3 B) (s1c3 B) (b1c3 B)) (k0_pay47 (kM i B) (k0_pay33 (kQ i B)) (w1c3 B) (s1c3 B) (b1c3 B)) (ix2 r ⟨128 + b.val, by omega⟩)) = rA i B r ⟨896 + b.val, by omega⟩ :=
  ab_at r _ (rH i B r) _ _ ((kT3_at i B r ⟨128 + b.val, by omega⟩).trans (congrArg (rH i B r) (Fin.ext (by dsimp only <;> omega))))

/-- The magnitude of lane `b` of slice 8. -/
theorem ab8 (b : Fin 128) : FloatOps.absf (F := Ideal) (φ := .f32) (k0_pay50 (kM i B) (k0_pay33 (kQ i B)) (w1c4 B) (s1c4 B) (b1c4 B) (ix2 r ⟨b.val, by omega⟩)) = rA i B r ⟨1024 + b.val, by omega⟩ :=
  ab_at r _ (rH i B r) _ _ ((kT4_at i B r ⟨b.val, by omega⟩).trans (congrArg (rH i B r) (Fin.ext (by dsimp only <;> omega))))

/-- The magnitude of lane `b` of slice 9. -/
theorem ab9 (b : Fin 128) : FloatOps.absf (F := Ideal) (φ := .f32) (k0_pay50 (kM i B) (k0_pay33 (kQ i B)) (w1c4 B) (s1c4 B) (b1c4 B) (ix2 r ⟨128 + b.val, by omega⟩)) = rA i B r ⟨1152 + b.val, by omega⟩ :=
  ab_at r _ (rH i B r) _ _ ((kT4_at i B r ⟨128 + b.val, by omega⟩).trans (congrArg (rH i B r) (Fin.ext (by dsimp only <;> omega))))

/-- The magnitude of lane `b` of slice 10. -/
theorem ab10 (b : Fin 128) : FloatOps.absf (F := Ideal) (φ := .f32) (k0_pay54 (kM i B) (k0_pay53 (k0_pay33 (kQ i B)) (w1c5 B)) (s1c5 B) (b1c5 B) (ix2 r ⟨b.val, by omega⟩)) = rA i B r ⟨1280 + b.val, by omega⟩ :=
  ab_at r _ (rH i B r) _ _ ((kT5_at i B r ⟨b.val, by omega⟩).trans (congrArg (rH i B r) (Fin.ext (by dsimp only <;> omega))))

/-- The magnitude of lane `b` of slice 11. -/
theorem ab11 (b : Fin 128) : FloatOps.absf (F := Ideal) (φ := .f32) (k0_pay54 (kM i B) (k0_pay53 (k0_pay33 (kQ i B)) (w1c5 B)) (s1c5 B) (b1c5 B) (ix2 r ⟨128 + b.val, by omega⟩)) = rA i B r ⟨1408 + b.val, by omega⟩ :=
  ab_at r _ (rH i B r) _ _ ((kT5_at i B r ⟨128 + b.val, by omega⟩).trans (congrArg (rH i B r) (Fin.ext (by dsimp only <;> omega))))

/-- The hidden layer's row scale. -/
theorem kH_at : kH i B (ix2 r 0) = scale (amax (rH i B r)) := by
  unfold kH
  rw [p56]
  refine congrArg scale (Eq.trans ?_ (sup_tiles (rA i B r) fun j => abs_nonneg' _))
  refine congrArg (fun f => Finset.fold max ⊥ f Finset.univ) (funext fun b => ?_)
  unfold kA5
  rw [p52]
  unfold kA3
  rw [p44]
  unfold kA2
  rw [p39, p34]
  simp only [ab0, ab1, ab2, ab3, ab4, ab5, ab6, ab7, ab8, ab9, ab10, ab11]

/-- The reciprocal of the hidden row's scale. -/
theorem rcp_at (x : EReal) : x * k0_pay62 (kH i B) (ix2 r 0) = Ideal.div x (scale (amax (rH i B r))) := by
  rw [p62, kH_at, mul_one_div]

/-- The hidden row's code at a column. -/
def rQ (j : Fin 1536) : BitVec 8 := code (scale (amax (rH i B r))) (rH i B r j)

/-- Tile 0 rounded and clipped. -/
theorem clip0_at (k : Fin 256) : k0_pay63 (kH i B) (kL0 i B) (ix2 r k) = clipRound (Ideal.div (rH i B r ⟨k.val, by omega⟩) (scale (amax (rH i B r)))) := by
  rw [p63, rcp_at, kL0_at]

/-- Tile 0's codes, as numbers. -/
theorem val0_at (k : Fin 256) : k0_pay63 (kH i B) (kL0 i B) (ix2 r k) = codeVal (rQ i B r ⟨k.val, by omega⟩) := by
  rw [clip0_at, rQ, code, codeVal_clip]

/-- Tile 0's codes. -/
theorem kHc0_at (b : Fin 10) (c : Fin 48) (d : Fin 256) :
    kHc0 i B (ix4 0 b c d) = rQ i B ⟨b.val * 48 + c.val, by omega⟩ ⟨d.val, by omega⟩ := by
  unfold kHc0
  rw [p64, clip0_at]
  rfl

/-- Tile 1 rounded and clipped. -/
theorem clip1_at (k : Fin 256) : k0_pay67 (k0_pay66 (kH i B) (kL1 i B)) (ix2 r k) = clipRound (Ideal.div (rH i B r ⟨256 + k.val, by omega⟩) (scale (amax (rH i B r)))) := by
  rw [p67, p66, rcp_at, kL1_at]

/-- Tile 1's codes, as numbers. -/
theorem val1_at (k : Fin 256) : k0_pay67 (k0_pay66 (kH i B) (kL1 i B)) (ix2 r k) = codeVal (rQ i B r ⟨256 + k.val, by omega⟩) := by
  rw [clip1_at, rQ, code, codeVal_clip]

/-- Tile 1's codes. -/
theorem kHc1_at (b : Fin 10) (c : Fin 48) (d : Fin 256) :
    kHc1 i B (ix4 0 b c d) = rQ i B ⟨b.val * 48 + c.val, by omega⟩ ⟨256 + d.val, by omega⟩ := by
  unfold kHc1
  rw [p68, clip1_at]
  rfl

/-- Tile 2 rounded and clipped. -/
theorem clip2_at (k : Fin 256) : k0_pay69 (k0_pay62 (kH i B)) (kL2 i B) (ix2 r k) = clipRound (Ideal.div (rH i B r ⟨512 + k.val, by omega⟩) (scale (amax (rH i B r)))) := by
  rw [p69, rcp_at, kL2_at]

/-- Tile 2's codes, as numbers. -/
theorem val2_at (k : Fin 256) : k0_pay69 (k0_pay62 (kH i B)) (kL2 i B) (ix2 r k) = codeVal (rQ i B r ⟨512 + k.val, by omega⟩) := by
  rw [clip2_at, rQ, code, codeVal_clip]

/-- Tile 2's codes. -/
theorem kHc2_at (b : Fin 10) (c : Fin 48) (d : Fin 256) :
    kHc2 i B (ix4 0 b c d) = rQ i B ⟨b.val * 48 + c.val, by omega⟩ ⟨512 + d.val, by omega⟩ := by
  unfold kHc2
  rw [p70, clip2_at]
  rfl

/-- Tile 3 rounded and clipped. -/
theorem clip3_at (k : Fin 256) : k0_pay73 (k0_pay72 (k0_pay62 (kH i B)) (kL3 i B)) (FloatOps.ofBits (F := Ideal) FTy.f32 3271426048#32) (ix2 r k) = clipRound (Ideal.div (rH i B r ⟨768 + k.val, by omega⟩) (scale (amax (rH i B r)))) := by
  rw [p73, p72, rcp_at, kL3_at]
  rfl

/-- Tile 3's codes, as numbers. -/
theorem val3_at (k : Fin 256) : k0_pay73 (k0_pay72 (k0_pay62 (kH i B)) (kL3 i B)) (FloatOps.ofBits (F := Ideal) FTy.f32 3271426048#32) (ix2 r k) = codeVal (rQ i B r ⟨768 + k.val, by omega⟩) := by
  rw [clip3_at, rQ, code, codeVal_clip]

/-- Tile 3's codes. -/
theorem kHc3_at (b : Fin 10) (c : Fin 48) (d : Fin 256) :
    kHc3 i B (ix4 0 b c d) = rQ i B ⟨b.val * 48 + c.val, by omega⟩ ⟨768 + d.val, by omega⟩ := by
  unfold kHc3
  rw [p74, clip3_at]
  rfl

/-- Tile 4 rounded and clipped. -/
theorem clip4_at (k : Fin 256) : k0_pay75 (k0_pay62 (kH i B)) (kL4 i B) (ix2 r k) = clipRound (Ideal.div (rH i B r ⟨1024 + k.val, by omega⟩) (scale (amax (rH i B r)))) := by
  rw [p75, rcp_at, kL4_at]

/-- Tile 4's codes, as numbers. -/
theorem val4_at (k : Fin 256) : k0_pay75 (k0_pay62 (kH i B)) (kL4 i B) (ix2 r k) = codeVal (rQ i B r ⟨1024 + k.val, by omega⟩) := by
  rw [clip4_at, rQ, code, codeVal_clip]

/-- Tile 4's codes. -/
theorem kHc4_at (b : Fin 10) (c : Fin 48) (d : Fin 256) :
    kHc4 i B (ix4 0 b c d) = rQ i B ⟨b.val * 48 + c.val, by omega⟩ ⟨1024 + d.val, by omega⟩ := by
  unfold kHc4
  rw [p76, clip4_at]
  rfl

/-- Tile 5 rounded and clipped. -/
theorem clip5_at (k : Fin 256) : k0_pay80 (k0_pay78 (k0_pay62 (kH i B)) (kL5 i B)) (FloatOps.ofBits (F := Ideal) FTy.f32 1123942400#32) k0_pay79 (ix2 r k) = clipRound (Ideal.div (rH i B r ⟨1280 + k.val, by omega⟩) (scale (amax (rH i B r)))) := by
  rw [p80, p78, p79, rcp_at, kL5_at]
  rfl

/-- Tile 5's codes, as numbers. -/
theorem val5_at (k : Fin 256) : k0_pay80 (k0_pay78 (k0_pay62 (kH i B)) (kL5 i B)) (FloatOps.ofBits (F := Ideal) FTy.f32 1123942400#32) k0_pay79 (ix2 r k) = codeVal (rQ i B r ⟨1280 + k.val, by omega⟩) := by
  rw [clip5_at, rQ, code, codeVal_clip]

/-- Tile 5's codes. -/
theorem kHc5_at (b : Fin 10) (c : Fin 48) (d : Fin 256) :
    kHc5 i B (ix4 0 b c d) = rQ i B ⟨b.val * 48 + c.val, by omega⟩ ⟨1280 + d.val, by omega⟩ := by
  unfold kHc5
  rw [p81, clip5_at]
  rfl

/-- One product of the second layer. -/
def rP (k : Fin 384) (j : Fin 1536) : EReal := codeVal (rQ i B r j) * B.w2 (ix2 j k)

/-- The first partial sum. -/
theorem kF1_at (k : Fin 384) : kF1 i B (ix2 r k) = ∑ x : Fin 256, rP i B r k ⟨x.val, by omega⟩ := by
  unfold kF1
  rw [p65]
  simp only [val0_at, ldw2_0]
  rfl

/-- The partial sum over three tiles. -/
theorem kF3_at (k : Fin 384) : kF3 i B (ix2 r k) = (∑ x : Fin 256, rP i B r k ⟨x.val, by omega⟩) + (∑ x : Fin 256, rP i B r k ⟨256 + x.val, by omega⟩) + (∑ x : Fin 256, rP i B r k ⟨512 + x.val, by omega⟩) := by
  unfold kF3
  rw [p71, kF1_at]
  simp only [val1_at, val2_at, ldw2_1, ldw2_2]
  rfl

/-- The partial sum over five tiles. -/
theorem kF5_at (k : Fin 384) : kF5 i B (ix2 r k) = (∑ x : Fin 256, rP i B r k ⟨x.val, by omega⟩) + (∑ x : Fin 256, rP i B r k ⟨256 + x.val, by omega⟩) + (∑ x : Fin 256, rP i B r k ⟨512 + x.val, by omega⟩) + (∑ x : Fin 256, rP i B r k ⟨768 + x.val, by omega⟩) + (∑ x : Fin 256, rP i B r k ⟨1024 + x.val, by omega⟩) := by
  unfold kF5
  rw [p77, kF3_at]
  simp only [val3_at, val4_at, ldw2_3, ldw2_4]
  rfl

/-- The second layer, from its partial sums. -/
theorem kF_sum (k : Fin 384) :
    (kF5 i B (ix2 r k) + ∑ x, k0_pay80 (k0_pay78 (k0_pay62 (kH i B)) (kL5 i B)) (FloatOps.ofBits (F := Ideal) FTy.f32 1123942400#32) k0_pay79 (ix2 r x) * w2r5 B (ix2 x k)) * kH i B (ix2 r 0) * B.s2 (ix2 0 k) + B.b2 (ix2 0 k) = rF i B r k := by
  rw [kF5_at, kH_at]
  simp only [val5_at, ldw2_5]
  show (_ + ∑ x : Fin 256, rP i B r k ⟨1280 + x.val, by omega⟩) * _ * _ + _ = _
  rw [← sum_tiles (rP i B r k)]
  rfl

/-- The second layer, centred. -/
theorem kF_at (k : Fin 384) : kF i B (ix2 r k) = cent (rF i B r) k := by
  unfold kF
  rw [p84]
  exact congrArg (fun f => cent f k) (funext fun k => kF_sum i B r k)

/-- The second layer's variance plus epsilon. -/
theorem kV_at : kV i B (ix2 r 0) = varEps (cent (rF i B r)) := by
  unfold kV
  rw [p85]
  exact congrArg varEps (funext fun k => kF_at i B r k)

/-- The result. -/
theorem kY_at (b : Fin 10) (c : Fin 48) (d : Fin 384) : kY i B (ix4 0 b c d) = rY i B ⟨b.val * 48 + c.val, by omega⟩ d := by
  unfold kY
  rw [p1, kX_at, kF_at, kV_at, p82, p83, mul_rsqrt]
  rfl

/-- The block of the hidden layer's scales after the ten selects. -/
theorem kHs_at (cur : FVec Ideal S1x48x60 .f32) (l : Fin 48) (n : Fin 60) :
    kHs i B cur (ix3 0 l n) = if n.val / 10 = (i 1).val then scale (amax (rH i B ⟨48 * (n.val % 10) + l.val, by omega⟩)) else cur (ix3 0 l n) := by
  unfold kHs
  refine (put_hid (first i) (i 1).val (g6 i) rfl (kH i B) _ _ _ (fun l n => ?_) (fun l => ?_) l n).trans ?_
  · pointwise [k0_pay58]
  · unfold k0_pay59
    have e := kH.eq_1 i B
    simp only [← e]
    generalize kH i B = X
    pointwise
  · have h : k0_pay57 cur (ix2 l n) = cur (ix3 0 l n) := by pointwise [k0_pay57]
    rw [h, kH_at]
    split_ifs <;> rfl

end Cert.KernelIdeal.Row
-- ==== Proof.Token.lean ====
module

public import proofs.«01_k».proof.Proof.Row
/-! # The whole computation, token by token

`Data` holds what the two programs read: the attention output's codes and scales, the residual, the weights' codes as numbers,
their scales, and the biases, gains and offsets. A token is a level, a column and a line. -/
@[expose] public noncomputable section
namespace Cert.Mlp

/-- What the computation reads. -/
structure Data where
  oc : Fin 8 → Fin 60 → Fin 48 → Fin 384 → EReal
  os : Fin 8 → Fin 60 → Fin 48 → EReal
  x : Fin 8 → Fin 60 → Fin 48 → Fin 384 → EReal
  wp : Fin 384 → Fin 384 → EReal
  w1 : Fin 384 → Fin 1536 → EReal
  w2 : Fin 1536 → Fin 384 → EReal
  sp : Fin 384 → EReal
  bp : Fin 384 → EReal
  s1 : Fin 1536 → EReal
  b1 : Fin 1536 → EReal
  s2 : Fin 384 → EReal
  b2 : Fin 384 → EReal
  g1 : Fin 384 → EReal
  be1 : Fin 384 → EReal
  g2 : Fin 384 → EReal
  be2 : Fin 384 → EReal

variable (D : Data) (a : Fin 8) (n : Fin 60) (l : Fin 48)

/-- The token's row after the attention's residual. -/
def Data.u : Fin 384 → EReal := resid (D.x a n l) (lin (D.oc a n l) (D.os a n l) D.wp D.sp D.bp) D.g1 D.be1

/-- The token's hidden row. -/
def Data.h : Fin 1536 → EReal := Mlp.hidden (D.u a n l) D.w1 D.s1 D.b1

/-- The token's result. -/
def Data.y : Fin 384 → EReal := resid (D.u a n l) (second (D.h a n l) D.w2 D.s2 D.b2) D.g2 D.be2

/-- The scale of the token's row after the residual. -/
def Data.us : EReal := scale (amax (D.u a n l))

/-- The scale of the token's hidden row. -/
def Data.hs : EReal := scale (amax (D.h a n l))

end Cert.Mlp
-- ==== Proof.KRead.lean ====
module

public import proofs.«01_k».proof.Proof.Outs
public import proofs.«01_k».proof.Proof.KHid
public import proofs.«01_k».proof.Proof.Token
/-! # What a grid point reads

Point `t` reads level `t / 6` and the ten columns from `10 (t % 6)`. Its blocks' entries are entries of the arguments. -/
set_option maxRecDepth 16384
@[expose] public noncomputable section
namespace Cert.KernelIdeal.Read
open Cert.KernelIdeal Cert.KernelIdeal.Gen Cert.KernelIdeal.Body Cert.Mlp Idealize.ShloMosaic Idealize.ShloMosaic.TcCoe Idealize.SL.Sem
open scoped BigOperators
variable (m : (ℓ : Loc nD τ sig) → Buf (Elt Ideal) ℓ)

/-- What the program reads, off its arguments. -/
def data (c : Dev nD) : Data where
  oc a n l k := codeVal (m ((c : Thread nD τ).loc main_arg1) (ix4 a n l k))
  os a n l := m ((c : Thread nD τ).loc main_arg2) (ix3 a l n)
  x a n l k := m ((c : Thread nD τ).loc main_arg0) (ix5 0 a l n k)
  wp j k := codeVal (m ((c : Thread nD τ).loc main_arg3) (ix3 ⟨j.val / 32, by omega⟩ ⟨j.val % 32, by omega⟩ k))
  w1 j k := codeVal (m ((c : Thread nD τ).loc main_arg6) (ix2 j k))
  w2 j k := codeVal (m ((c : Thread nD τ).loc main_arg9) (ix2 j k))
  sp k := m ((c : Thread nD τ).loc main_arg4) (ix1 k)
  bp k := m ((c : Thread nD τ).loc main_arg5) (ix1 k)
  s1 k := m ((c : Thread nD τ).loc main_arg7) (ix1 k)
  b1 k := m ((c : Thread nD τ).loc main_arg8) (ix1 k)
  s2 k := m ((c : Thread nD τ).loc main_arg10) (ix1 k)
  b2 k := m ((c : Thread nD τ).loc main_arg11) (ix1 k)
  g1 k := m ((c : Thread nD τ).loc main_arg12) (ix1 k)
  be1 k := m ((c : Thread nD τ).loc main_arg13) (ix1 k)
  g2 k := m ((c : Thread nD τ).loc main_arg14) (ix1 k)
  be2 k := m ((c : Thread nD τ).loc main_arg15) (ix1 k)

/-- The block indices of the windows read, and the grid's coordinates, at every point. -/
theorem idx : ∀ t : Fin cfg0.N, win0_0.index t = ![t.val / 6, t.val % 6, 0, 0] ∧ win0_1.index t = ![t.val / 6, 0, 0] ∧ win0_2.index t = ![t.val / 6, t.val % 6, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0]
    ∧ (grid0.coords t 0).val = t.val / 6 ∧ (grid0.coords t 1).val = t.val % 6 :=
  (by decide +kernel : ∀ t : Fin grid0.N, _)

theorem lt48 (t : Fin cfg0.N) : t.val < 48 := lt_of_lt_of_eq t.isLt (show cfg0.N = 48 from N_0)

variable (c : Dev nD) (t : Fin cfg0.N)

/-- The blocks and weights of point `t`. -/
def blk : Blk where
  oc := iblk m c 0 t
  os := iblk m c 1 t
  x := iblk m c 2 t
  wp := k0_pay2 (iblk m c 3 t)
  w1 := k0_pay3 (iblk m c 4 t)
  w2 := k0_pay4 (iblk m c 5 t)
  sp := iblk m c 6 t
  bp := iblk m c 7 t
  s1 := iblk m c 8 t
  b1 := iblk m c 9 t
  s2 := iblk m c 10 t
  b2 := iblk m c 11 t
  g1 := iblk m c 12 t
  be1 := iblk m c 13 t
  g2 := iblk m c 14 t
  be2 := iblk m c 15 t

/-! The entries of the blocks. -/

theorem r_oc (b : Fin 10) (l : Fin 48) (k : Fin 384) : codeVal ((blk m c t).oc (ix4 0 b l k)) = (data m c).oc ⟨t.val / 6, by have := lt48 t; omega⟩ ⟨10 * (t.val % 6) + b.val, by omega⟩ l k := by
  refine congrArg codeVal ?_
  show iblk m c 0 t (ix4 0 b l k) = _
  blk_point [iblk, V, idx t]
theorem r_os (l : Fin 48) (n : Fin 60) : (blk m c t).os (ix3 0 l n) = (data m c).os ⟨t.val / 6, by have := lt48 t; omega⟩ n l := by
  show iblk m c 1 t (ix3 0 l n) = (data m c).os ⟨t.val / 6, by have := lt48 t; omega⟩ n l
  blk_point [iblk, V, idx t]
theorem r_x (b : Fin 10) (l : Fin 48) (k : Fin 384) : (blk m c t).x (ix4 0 b l k) = (data m c).x ⟨t.val / 6, by have := lt48 t; omega⟩ ⟨10 * (t.val % 6) + b.val, by omega⟩ l k := by
  show iblk m c 2 t (ix4 0 b l k) = (data m c).x ⟨t.val / 6, by have := lt48 t; omega⟩ ⟨10 * (t.val % 6) + b.val, by omega⟩ l k
  have e : iblk m c 2 t (ix4 0 b l k) = V m c main_v1 (ix4 ⟨t.val / 6, by have := lt48 t; omega⟩ ⟨10 * (t.val % 6) + b.val, by omega⟩ l k) := by blk_point [iblk, idx t]
  refine e.trans ?_
  entry_read
  pointwise [data]
theorem r_wp (j k : Fin 384) : (blk m c t).wp (ix2 j k) = (data m c).wp j k := by
  have h : (blk m c t).wp (ix2 j k) = codeVal (iblk m c 3 t (ix2 j k)) := by
    show k0_pay2 (iblk m c 3 t) (ix2 j k) = _
    generalize iblk m c 3 t = X
    pointwise [k0_pay2]
    rfl
  rw [h]
  refine congrArg codeVal ?_
  have e : iblk m c 3 t (ix2 j k) = V m c main_v2 (ix2 j k) := by blk_point [iblk, idx t]
  refine e.trans ?_
  entry_read
  pointwise [data]
theorem r_w1 (j : Fin 384) (k : Fin 1536) : (blk m c t).w1 (ix2 j k) = (data m c).w1 j k := by
  have h : (blk m c t).w1 (ix2 j k) = codeVal (iblk m c 4 t (ix2 j k)) := by
    show k0_pay3 (iblk m c 4 t) (ix2 j k) = _
    generalize iblk m c 4 t = X
    pointwise [k0_pay3]
    rfl
  rw [h]
  refine congrArg codeVal ?_
  blk_point [iblk, V, idx t]
theorem r_w2 (j : Fin 1536) (k : Fin 384) : (blk m c t).w2 (ix2 j k) = (data m c).w2 j k := by
  have h : (blk m c t).w2 (ix2 j k) = codeVal (iblk m c 5 t (ix2 j k)) := by
    show k0_pay4 (iblk m c 5 t) (ix2 j k) = _
    generalize iblk m c 5 t = X
    pointwise [k0_pay4]
    rfl
  rw [h]
  refine congrArg codeVal ?_
  blk_point [iblk, V, idx t]
theorem r_sp (k : Fin 384) : (blk m c t).sp (ix2 0 k) = (data m c).sp k := by
  show iblk m c 6 t (ix2 0 k) = (data m c).sp k
  have e : iblk m c 6 t (ix2 0 k) = V m c main_v3 (ix2 0 k) := by blk_point [iblk, idx t]
  refine e.trans ?_
  entry_read
  pointwise [data]
theorem r_bp (k : Fin 384) : (blk m c t).bp (ix2 0 k) = (data m c).bp k := by
  show iblk m c 7 t (ix2 0 k) = (data m c).bp k
  have e : iblk m c 7 t (ix2 0 k) = V m c main_v4 (ix2 0 k) := by blk_point [iblk, idx t]
  refine e.trans ?_
  entry_read
  pointwise [data]
theorem r_s1 (k : Fin 1536) : (blk m c t).s1 (ix2 0 k) = (data m c).s1 k := by
  show iblk m c 8 t (ix2 0 k) = (data m c).s1 k
  have e : iblk m c 8 t (ix2 0 k) = V m c main_v5 (ix2 0 k) := by blk_point [iblk, idx t]
  refine e.trans ?_
  entry_read
  pointwise [data]
theorem r_b1 (k : Fin 1536) : (blk m c t).b1 (ix2 0 k) = (data m c).b1 k := by
  show iblk m c 9 t (ix2 0 k) = (data m c).b1 k
  have e : iblk m c 9 t (ix2 0 k) = V m c main_v6 (ix2 0 k) := by blk_point [iblk, idx t]
  refine e.trans ?_
  entry_read
  pointwise [data]
theorem r_s2 (k : Fin 384) : (blk m c t).s2 (ix2 0 k) = (data m c).s2 k := by
  show iblk m c 10 t (ix2 0 k) = (data m c).s2 k
  have e : iblk m c 10 t (ix2 0 k) = V m c main_v7 (ix2 0 k) := by blk_point [iblk, idx t]
  refine e.trans ?_
  entry_read
  pointwise [data]
theorem r_b2 (k : Fin 384) : (blk m c t).b2 (ix2 0 k) = (data m c).b2 k := by
  show iblk m c 11 t (ix2 0 k) = (data m c).b2 k
  have e : iblk m c 11 t (ix2 0 k) = V m c main_v8 (ix2 0 k) := by blk_point [iblk, idx t]
  refine e.trans ?_
  entry_read
  pointwise [data]
theorem r_g1 (k : Fin 384) : (blk m c t).g1 (ix2 0 k) = (data m c).g1 k := by
  show iblk m c 12 t (ix2 0 k) = (data m c).g1 k
  have e : iblk m c 12 t (ix2 0 k) = V m c main_v9 (ix2 0 k) := by blk_point [iblk, idx t]
  refine e.trans ?_
  entry_read
  pointwise [data]
theorem r_be1 (k : Fin 384) : (blk m c t).be1 (ix2 0 k) = (data m c).be1 k := by
  show iblk m c 13 t (ix2 0 k) = (data m c).be1 k
  have e : iblk m c 13 t (ix2 0 k) = V m c main_v10 (ix2 0 k) := by blk_point [iblk, idx t]
  refine e.trans ?_
  entry_read
  pointwise [data]
theorem r_g2 (k : Fin 384) : (blk m c t).g2 (ix2 0 k) = (data m c).g2 k := by
  show iblk m c 14 t (ix2 0 k) = (data m c).g2 k
  have e : iblk m c 14 t (ix2 0 k) = V m c main_v11 (ix2 0 k) := by blk_point [iblk, idx t]
  refine e.trans ?_
  entry_read
  pointwise [data]
theorem r_be2 (k : Fin 384) : (blk m c t).be2 (ix2 0 k) = (data m c).be2 k := by
  show iblk m c 15 t (ix2 0 k) = (data m c).be2 k
  have e : iblk m c 15 t (ix2 0 k) = V m c main_v12 (ix2 0 k) := by blk_point [iblk, idx t]
  refine e.trans ?_
  entry_read
  pointwise [data]

end Cert.KernelIdeal.Read
-- ==== Proof.KTok.lean ====
module

public import proofs.«01_k».proof.Proof.KRead
/-! # A point's rows are tokens

Row `48 b + l` of point `t` is the token of level `t / 6`, column `10 (t % 6) + b` and line `l`. -/
set_option maxRecDepth 16384
@[expose] public noncomputable section
namespace Cert.KernelIdeal.Read
open Cert.KernelIdeal Cert.KernelIdeal.Gen Cert.KernelIdeal.Body Cert.KernelIdeal.Row Cert.Mlp Idealize.ShloMosaic Idealize.ShloMosaic.TcCoe Idealize.SL.Sem
open scoped BigOperators
variable (m : (ℓ : Loc nD τ sig) → Buf (Elt Ideal) ℓ) (c : Dev nD) (t : Fin cfg0.N)

theorem u_at (r : Fin 480) (b : Fin 10) (l : Fin 48) (hb : r.val / 48 = b.val) (hl : r.val % 48 = l.val) :
    rU (grid0.coords t) (blk m c t) r = (data m c).u ⟨t.val / 6, by have := lt48 t; omega⟩ ⟨10 * (t.val % 6) + b.val, by omega⟩ l := by
  have e1 : (grid0.coords t 1).val = t.val % 6 := (idx t).2.2.2.2.2.2.2.2.2.2.2.2.2.2.2.2.2
  obtain ⟨r, hr⟩ := r
  obtain ⟨b, hb'⟩ := b
  obtain ⟨l, hl'⟩ := l
  dsimp only at hb hl
  subst hb hl
  unfold rU rLin rT Data.u
  simp only [r_oc, r_os, r_x, r_wp, r_sp, r_bp, r_g1, r_be1, e1]

theorem h_at (r : Fin 480) (b : Fin 10) (l : Fin 48) (hb : r.val / 48 = b.val) (hl : r.val % 48 = l.val) :
    rH (grid0.coords t) (blk m c t) r = (data m c).h ⟨t.val / 6, by have := lt48 t; omega⟩ ⟨10 * (t.val % 6) + b.val, by omega⟩ l := by
  unfold rH Data.h
  simp only [u_at m c t r b l hb hl, r_w1, r_s1, r_b1]

theorem y_at (r : Fin 480) (b : Fin 10) (l : Fin 48) (hb : r.val / 48 = b.val) (hl : r.val % 48 = l.val) :
    rY (grid0.coords t) (blk m c t) r = (data m c).y ⟨t.val / 6, by have := lt48 t; omega⟩ ⟨10 * (t.val % 6) + b.val, by omega⟩ l := by
  unfold rY rF Data.y
  simp only [u_at m c t r b l hb hl, h_at m c t r b l hb hl, r_w2, r_s2, r_b2, r_g2, r_be2]

/-- The result block. -/
theorem kY_tok (b : Fin 10) (l : Fin 48) (d : Fin 384) :
    kY (grid0.coords t) (blk m c t) (ix4 0 b l d) = (data m c).y ⟨t.val / 6, by have := lt48 t; omega⟩ ⟨10 * (t.val % 6) + b.val, by omega⟩ l d := by
  rw [kY_at, y_at m c t _ b l (by dsimp only; omega) (by dsimp only; omega)]

/-- The block of codes. -/
theorem kMc_tok (b : Fin 10) (l : Fin 48) (d : Fin 384) :
    kMc (grid0.coords t) (blk m c t) (ix4 0 b l d) = code ((data m c).us ⟨t.val / 6, by have := lt48 t; omega⟩ ⟨10 * (t.val % 6) + b.val, by omega⟩ l)
      ((data m c).u ⟨t.val / 6, by have := lt48 t; omega⟩ ⟨10 * (t.val % 6) + b.val, by omega⟩ l d) := by
  rw [kMc_at, u_at m c t _ b l (by dsimp only; omega) (by dsimp only; omega)]
  rfl

/-- The hidden layer's codes. -/
theorem rQ_tok (r : Fin 480) (b : Fin 10) (l : Fin 48) (hb : r.val / 48 = b.val) (hl : r.val % 48 = l.val) (d : Fin 1536) :
    rQ (grid0.coords t) (blk m c t) r d = code ((data m c).hs ⟨t.val / 6, by have := lt48 t; omega⟩ ⟨10 * (t.val % 6) + b.val, by omega⟩ l)
      ((data m c).h ⟨t.val / 6, by have := lt48 t; omega⟩ ⟨10 * (t.val % 6) + b.val, by omega⟩ l d) := by
  unfold rQ
  rw [h_at m c t r b l hb hl]
  rfl

/-- The block of the rows' scales: the point's own ten columns are written, the others kept. -/
theorem kMs_tok (cur : FVec Ideal S1x48x60 .f32) (l : Fin 48) (n : Fin 60) :
    kMs (grid0.coords t) (blk m c t) cur (ix3 0 l n) = if n.val / 10 = t.val % 6 then (data m c).us ⟨t.val / 6, by have := lt48 t; omega⟩ n l else cur (ix3 0 l n) := by
  have e1 : (grid0.coords t 1).val = t.val % 6 := (idx t).2.2.2.2.2.2.2.2.2.2.2.2.2.2.2.2.2
  rw [kMs_at, e1]
  by_cases h : n.val / 10 = t.val % 6
  · rw [if_pos h, if_pos h, u_at m c t _ ⟨n.val % 10, by omega⟩ l (by dsimp only; omega) (by dsimp only; omega)]
    have e : (⟨10 * (t.val % 6) + n.val % 10, by omega⟩ : Fin 60) = n := Fin.ext (by dsimp only; omega)
    dsimp only
    rw [e]
    rfl
  · rw [if_neg h, if_neg h]

/-- The block of the hidden rows' scales: likewise. -/
theorem kHs_tok (cur : FVec Ideal S1x48x60 .f32) (l : Fin 48) (n : Fin 60) :
    kHs (grid0.coords t) (blk m c t) cur (ix3 0 l n) = if n.val / 10 = t.val % 6 then (data m c).hs ⟨t.val / 6, by have := lt48 t; omega⟩ n l else cur (ix3 0 l n) := by
  have e1 : (grid0.coords t 1).val = t.val % 6 := (idx t).2.2.2.2.2.2.2.2.2.2.2.2.2.2.2.2.2
  rw [kHs_at, e1]
  by_cases h : n.val / 10 = t.val % 6
  · rw [if_pos h, if_pos h, h_at m c t _ ⟨n.val % 10, by omega⟩ l (by dsimp only; omega) (by dsimp only; omega)]
    have e : (⟨10 * (t.val % 6) + n.val % 10, by omega⟩ : Fin 60) = n := Fin.ext (by dsimp only; omega)
    dsimp only
    rw [e]
    rfl
  · rw [if_neg h, if_neg h]

end Cert.KernelIdeal.Read
-- ==== Proof.KScr.lean ====
module

public import proofs.«01_k».proof.Proof.KRead
/-! # What every point leaves

The weights' scratch holds the weights after every point, so every point's blocks are the functions of `Body` at what it reads. -/
set_option maxRecDepth 16384
@[expose] public noncomputable section
namespace Cert.KernelIdeal.Read
open Cert.KernelIdeal Cert.KernelIdeal.Gen Cert.KernelIdeal.Body Cert.KernelIdeal.Out Cert.Mlp Idealize.ShloMosaic Idealize.ShloMosaic.TcCoe Idealize.SL.Sem
open scoped BigOperators
variable (m : (ℓ : Loc nD τ sig) → Buf (Elt Ideal) ℓ) (c : Dev nD) (t : Fin cfg0.N)

theorem c3 (t' : Fin cfg0.N) : iblk m c 3 t = iblk m c 3 t' := by
  funext x
  blk_ext [iblk, idx t, idx t']
theorem c4 (t' : Fin cfg0.N) : iblk m c 4 t = iblk m c 4 t' := by
  funext x
  blk_ext [iblk, idx t, idx t']
theorem c5 (t' : Fin cfg0.N) : iblk m c 5 t = iblk m c 5 t' := by
  funext x
  blk_ext [iblk, idx t, idx t']

/-- The scratch holds the weights after every point. -/
theorem scr : ∀ (n : ℕ) (hn : n < cfg0.N),
    (outsAt0 m c n hn).2.2.2.2.2.1 = (blk m c ⟨n, hn⟩).wp ∧ (outsAt0 m c n hn).2.2.2.2.2.2.1 = (blk m c ⟨n, hn⟩).w1
      ∧ (outsAt0 m c n hn).2.2.2.2.2.2.2 = (blk m c ⟨n, hn⟩).w2
  | 0, hn => ⟨w0_A m c ⟨0, hn⟩ rfl rfl, w1_A m c ⟨0, hn⟩ rfl rfl, w2_A m c ⟨0, hn⟩ rfl rfl⟩
  | n + 1, hn => by
    have h48 : n + 1 < 48 := lt48 ⟨n + 1, hn⟩
    obtain ⟨i0, i1, i2⟩ := scr n (Nat.lt_of_succ_lt hn)
    have h0 : ¬(n + 1) % 48 = 0 := by omega
    have j0 : (blk m c ⟨n, Nat.lt_of_succ_lt hn⟩).wp = (blk m c ⟨n + 1, hn⟩).wp := congrArg k0_pay2 (c3 m c _ _)
    have j1 : (blk m c ⟨n, Nat.lt_of_succ_lt hn⟩).w1 = (blk m c ⟨n + 1, hn⟩).w1 := congrArg k0_pay3 (c4 m c _ _)
    have j2 : (blk m c ⟨n, Nat.lt_of_succ_lt hn⟩).w2 = (blk m c ⟨n + 1, hn⟩).w2 := congrArg k0_pay4 (c5 m c _ _)
    by_cases h1 : (n + 1) % 6 = 0
    · exact ⟨(w0_C m c ⟨n + 1, hn⟩ h0 h1).trans (i0.trans j0), (w1_C m c ⟨n + 1, hn⟩ h0 h1).trans (i1.trans j1),
        (w2_C m c ⟨n + 1, hn⟩ h0 h1).trans (i2.trans j2)⟩
    · exact ⟨(w0_B m c ⟨n + 1, hn⟩ h0 h1).trans (i0.trans j0), (w1_B m c ⟨n + 1, hn⟩ h0 h1).trans (i1.trans j1),
        (w2_B m c ⟨n + 1, hn⟩ h0 h1).trans (i2.trans j2)⟩

/-- The scratch after the point before `t`. -/
theorem scr_prev (h : ¬t.val % 48 = 0) :
    (outsAt0 m c (t.val - 1) (by have := t.isLt; omega)).2.2.2.2.2.1 = (blk m c t).wp
      ∧ (outsAt0 m c (t.val - 1) (by have := t.isLt; omega)).2.2.2.2.2.2.1 = (blk m c t).w1
      ∧ (outsAt0 m c (t.val - 1) (by have := t.isLt; omega)).2.2.2.2.2.2.2 = (blk m c t).w2 := by
  obtain ⟨i0, i1, i2⟩ := scr m c (t.val - 1) (by have := t.isLt; omega)
  exact ⟨i0.trans (congrArg k0_pay2 (c3 m c _ _)), i1.trans (congrArg k0_pay3 (c4 m c _ _)), i2.trans (congrArg k0_pay4 (c5 m c _ _))⟩

theorem reads : Reads m c t (blk m c t) := ⟨rfl, rfl, rfl, rfl, rfl, rfl, rfl, rfl, rfl, rfl, rfl, rfl, rfl⟩

/-- The result block of point `t`. -/
theorem y_pt : (outsAt0 m c t.val t.isLt).1 = kY (grid0.coords t) (blk m c t) := by
  by_cases h0 : t.val % 48 = 0
  · exact y_A m c t h0 (by omega) _ (reads m c t) rfl rfl rfl
  · obtain ⟨i0, i1, i2⟩ := scr_prev m c t h0
    by_cases h1 : t.val % 6 = 0
    · exact y_C m c t h0 h1 _ (reads m c t) i0 i1 i2
    · exact y_B m c t h0 h1 _ (reads m c t) i0 i1 i2

/-- The block of codes of point `t`. -/
theorem mc_pt : (outsAt0 m c t.val t.isLt).2.1 = kMc (grid0.coords t) (blk m c t) := by
  by_cases h0 : t.val % 48 = 0
  · exact mc_A m c t h0 (by omega) _ (reads m c t) rfl rfl rfl
  · obtain ⟨i0, i1, i2⟩ := scr_prev m c t h0
    by_cases h1 : t.val % 6 = 0
    · exact mc_C m c t h0 h1 _ (reads m c t) i0 i1 i2
    · exact mc_B m c t h0 h1 _ (reads m c t) i0 i1 i2

/-- The block of the hidden layer's codes of point `t`. -/
theorem hc_pt : (outsAt0 m c t.val t.isLt).2.2.2.1 = View.canon (Val := Elt Ideal) (s := S1x10x48x1536) (e := .i8) [
      ⟨Rect.unit ![0, 0, 0, 1280] ![1, 10, 48, 256] inb_S1x10x48x1536_S1x10x48x256_0_0_0_1280, kHc5 (grid0.coords t) (blk m c t)⟩,
      ⟨Rect.unit ![0, 0, 0, 1024] ![1, 10, 48, 256] inb_S1x10x48x1536_S1x10x48x256_0_0_0_1024, kHc4 (grid0.coords t) (blk m c t)⟩,
      ⟨Rect.unit ![0, 0, 0, 768] ![1, 10, 48, 256] inb_S1x10x48x1536_S1x10x48x256_0_0_0_768, kHc3 (grid0.coords t) (blk m c t)⟩,
      ⟨Rect.unit ![0, 0, 0, 512] ![1, 10, 48, 256] inb_S1x10x48x1536_S1x10x48x256_0_0_0_512, kHc2 (grid0.coords t) (blk m c t)⟩,
      ⟨Rect.unit ![0, 0, 0, 256] ![1, 10, 48, 256] inb_S1x10x48x1536_S1x10x48x256_0_0_0_256, kHc1 (grid0.coords t) (blk m c t)⟩,
      ⟨Rect.unit ![0, 0, 0, 0] ![1, 10, 48, 256] inb_S1x10x48x1536_S1x10x48x256_0_0_0_0, kHc0 (grid0.coords t) (blk m c t)⟩] := by
  by_cases h0 : t.val % 48 = 0
  · exact hc_A m c t h0 (by omega) _ (reads m c t) rfl rfl rfl
  · obtain ⟨i0, i1, i2⟩ := scr_prev m c t h0
    by_cases h1 : t.val % 6 = 0
    · exact hc_C m c t h0 h1 _ (reads m c t) i0 i1 i2
    · exact hc_B m c t h0 h1 _ (reads m c t) i0 i1 i2

/-- The block of scales after the first point of a row. -/
theorem ms_first (h1 : t.val % 6 = 0) : (outsAt0 m c t.val t.isLt).2.2.1 = kMs (grid0.coords t) (blk m c t) k0_pay5 := by
  by_cases h0 : t.val % 48 = 0
  · exact ms_A m c t h0 h1 _ (reads m c t) rfl rfl rfl
  · obtain ⟨i0, i1, i2⟩ := scr_prev m c t h0
    exact ms_C m c t h0 h1 _ (reads m c t) i0 i1 i2

/-- The block of scales after another point. -/
theorem ms_next (h1 : ¬t.val % 6 = 0) : (outsAt0 m c t.val t.isLt).2.2.1
    = kMs (grid0.coords t) (blk m c t) (outsAt0 m c (t.val - 1) (by have := t.isLt; omega)).2.2.1 := by
  obtain ⟨i0, i1, i2⟩ := scr_prev m c t (by omega)
  exact ms_B m c t (by omega) h1 _ (reads m c t) i0 i1 i2

/-- The block of the hidden layer's scales after the first point of a row. -/
theorem hs_first (h1 : t.val % 6 = 0) : (outsAt0 m c t.val t.isLt).2.2.2.2.1 = kHs (grid0.coords t) (blk m c t) k0_pay6 := by
  by_cases h0 : t.val % 48 = 0
  · exact hs_A m c t h0 h1 _ (reads m c t) rfl rfl rfl
  · obtain ⟨i0, i1, i2⟩ := scr_prev m c t h0
    exact hs_C m c t h0 h1 _ (reads m c t) i0 i1 i2

/-- The block of the hidden layer's scales after another point. -/
theorem hs_next (h1 : ¬t.val % 6 = 0) : (outsAt0 m c t.val t.isLt).2.2.2.2.1
    = kHs (grid0.coords t) (blk m c t) (outsAt0 m c (t.val - 1) (by have := t.isLt; omega)).2.2.2.2.1 := by
  obtain ⟨i0, i1, i2⟩ := scr_prev m c t (by omega)
  exact hs_B m c t (by omega) h1 _ (reads m c t) i0 i1 i2

end Cert.KernelIdeal.Read
-- ==== Proof.KArr.lean ====
module

public import proofs.«01_k».proof.Proof.KTok
public import proofs.«01_k».proof.Proof.KScr
/-! # The kernel's results

Each result array holds, at every token, what `Data` says of the token. -/
set_option maxRecDepth 16384
@[expose] public noncomputable section
namespace Cert.KernelIdeal.Read
open Cert.KernelIdeal Cert.KernelIdeal.Gen Cert.KernelIdeal.Body Cert.KernelIdeal.Row Cert.Mlp Idealize.ShloMosaic Idealize.ShloMosaic.TcCoe Idealize.SL.Sem
open scoped BigOperators
variable (m : (ℓ : Loc nD τ sig) → Buf (Elt Ideal) ℓ) (c : Dev nD) (t : Fin cfg0.N)

/-- Where the blocks written lie. -/
theorem idxO : ∀ t : Fin cfg0.N, win0_16.index t = ![t.val / 6, t.val % 6, 0, 0] ∧ win0_17.index t = ![t.val / 6, t.val % 6, 0, 0]
    ∧ win0_18.index t = ![t.val / 6, 0, 0] ∧ win0_19.index t = ![t.val / 6, t.val % 6, 0, 0] ∧ win0_20.index t = ![t.val / 6, 0, 0]
    ∧ ((cfg0.win 18).flush t = true → t.val % 6 = 5) ∧ ((cfg0.win 20).flush t = true → t.val % 6 = 5) :=
  (by decide +kernel : ∀ t : Fin grid0.N, _)

/-- The result. -/
def Y : FVec Ideal S8x60x48x384 .bf16 := fun i => (data m c).y (i 0) (i 1) (i 2) (i 3)

/-- The codes of the rows after the residual. -/
def Mc : IVec S8x60x48x384 8 := fun i => code ((data m c).us (i 0) (i 1) (i 2)) ((data m c).u (i 0) (i 1) (i 2) (i 3))

/-- Their scales. -/
def Ms : FVec Ideal S8x48x60 .f32 := fun i => (data m c).us (i 0) (i 2) (i 1)

/-- The codes of the hidden rows. -/
def Hc : IVec S8x60x48x1536 8 := fun i => code ((data m c).hs (i 0) (i 1) (i 2)) ((data m c).h (i 0) (i 1) (i 2) (i 3))

/-- Their scales. -/
def Hs : FVec Ideal S8x48x60 .f32 := fun i => (data m c).hs (i 0) (i 2) (i 1)

theorem ix4_of (y : S1x10x48x384.Idx) : ∃ (b : Fin 10) (l : Fin 48) (d : Fin 384), y = ix4 0 b l d := by
  refine ⟨y 1, y 2, y 3, ?_⟩
  blk_ext

theorem ix4h_of (y : S1x10x48x1536.Idx) : ∃ (b : Fin 10) (l : Fin 48) (d : Fin 1536), y = ix4 0 b l d := by
  refine ⟨y 1, y 2, y 3, ?_⟩
  blk_ext

theorem ix3_of (y : S1x48x60.Idx) : ∃ (l : Fin 48) (n : Fin 60), y = ix3 0 l n := by
  refine ⟨y 1, y 2, ?_⟩
  blk_ext

/-- The result array. -/
theorem arr16 : (dats m 0 c).arrAt 16 cfg0.N = Y m c := by
  refine (dats m 0 c).arrAt_eq_of_covers 16 _ (by decide +kernel) fun t hf y => ?_
  rw [after0_16, y_pt]
  obtain ⟨b, l, d, rfl⟩ := ix4_of y
  have e : (win0_16.blk t).view.emb (ix4 0 b l d) = ix4 ⟨t.val / 6, by have := lt48 t; omega⟩ ⟨10 * (t.val % 6) + b.val, by omega⟩ l d := by blk_ext [idxO t]
  blk_simp
  refine (kY_tok m c t b l d).trans (Eq.trans ?_ (congrArg (Y m c) e.symm))
  rfl

/-- The array of codes. -/
theorem arr17 : (dats m 0 c).arrAt 17 cfg0.N = Mc m c := by
  refine (dats m 0 c).arrAt_eq_of_covers 17 _ (by decide +kernel) fun t hf y => ?_
  rw [after0_17, mc_pt]
  obtain ⟨b, l, d, rfl⟩ := ix4_of y
  have e : (win0_17.blk t).view.emb (ix4 0 b l d) = ix4 ⟨t.val / 6, by have := lt48 t; omega⟩ ⟨10 * (t.val % 6) + b.val, by omega⟩ l d := by blk_ext [idxO t]
  blk_simp
  refine (kMc_tok m c t b l d).trans (Eq.trans ?_ (congrArg (Mc m c) e.symm))
  rfl

/-- A tile of the hidden layer's codes, read at an index of the block. -/
theorem tile (o : ℕ) (ho : o + 256 ≤ 1536) (K : S1x10x48x256.Idx → BitVec 8)
    (hK : ∀ (b : Fin 10) (l : Fin 48) (d : Fin 256), K (ix4 0 b l d)
      = rQ (grid0.coords t) (blk m c t) ⟨b.val * 48 + l.val, by omega⟩ ⟨o + d.val, by omega⟩)
    (x : S1x10x48x256.Idx) (b : Fin 10) (l : Fin 48) (d : Fin 1536)
    (h1 : b.val = (x 1).val) (h2 : l.val = (x 2).val) (h3 : d.val = o + (x 3).val) :
    K x = rQ (grid0.coords t) (blk m c t) ⟨b.val * 48 + l.val, by omega⟩ d := by
  have e : x = ix4 0 (x 1) (x 2) (x 3) := by blk_ext
  refine (congrArg K e).trans ((hK (x 1) (x 2) (x 3)).trans ?_)
  congr 1
  · exact Fin.ext (by dsimp only; omega)
  · exact Fin.ext (by dsimp only; omega)

/-- The hidden layer's codes at a point: the six tiles are one row of 1536 channels. -/
theorem hc_tok (y : S1x10x48x1536.Idx) (b : Fin 10) (l : Fin 48) (d : Fin 1536)
    (e1 : b.val = (y 1).val) (e2 : l.val = (y 2).val) (e3 : d.val = (y 3).val) : (outsAt0 m c t.val t.isLt).2.2.2.1 y
    = code ((data m c).hs ⟨t.val / 6, by have := lt48 t; omega⟩ ⟨10 * (t.val % 6) + b.val, by omega⟩ l) ((data m c).h ⟨t.val / 6, by have := lt48 t; omega⟩ ⟨10 * (t.val % 6) + b.val, by omega⟩ l d) := by
  rw [hc_pt]
  refine Eq.trans ?_ (rQ_tok m c t ⟨b.val * 48 + l.val, by omega⟩ b l (by dsimp only; omega) (by dsimp only; omega) d)
  canon_tiles y h
  · exact tile m c t 1280 (by omega) _ (kHc5_at _ _) _ b l d (e1.trans h1) (e2.trans h2) (e3.trans h3)
  · exact tile m c t 1024 (by omega) _ (kHc4_at _ _) _ b l d (e1.trans h1) (e2.trans h2) (e3.trans h3)
  · exact tile m c t 768 (by omega) _ (kHc3_at _ _) _ b l d (e1.trans h1) (e2.trans h2) (e3.trans h3)
  · exact tile m c t 512 (by omega) _ (kHc2_at _ _) _ b l d (e1.trans h1) (e2.trans h2) (e3.trans h3)
  · exact tile m c t 256 (by omega) _ (kHc1_at _ _) _ b l d (e1.trans h1) (e2.trans h2) (e3.trans h3)
  · refine tile m c t 0 (by omega) _ (fun b l d => (kHc0_at _ _ b l d).trans ?_) _ b l d (e1.trans h1) (e2.trans h2) (e3.trans (h3.trans (Nat.zero_add _).symm))
    congr 1
    exact Fin.ext (Nat.zero_add _).symm

/-- The array of the hidden layer's codes. -/
theorem arr19 : (dats m 0 c).arrAt 19 cfg0.N = Hc m c := by
  refine (dats m 0 c).arrAt_eq_of_covers 19 _ (by decide +kernel) fun t hf y => ?_
  rw [after0_19]
  obtain ⟨b, l, d, rfl⟩ := ix4h_of y
  have e : (win0_19.blk t).view.emb (ix4 0 b l d) = ix4 ⟨t.val / 6, by have := lt48 t; omega⟩ ⟨10 * (t.val % 6) + b.val, by omega⟩ l d := by blk_ext [idxO t]
  blk_simp
  refine (hc_tok m c t (ix4 0 b l d) b l d rfl rfl rfl).trans (Eq.trans ?_ (congrArg (Hc m c) e.symm))
  rfl

/-- After point `t` the block of scales holds the scales of the columns of the row's points up to `t`. -/
theorem ms_fold : ∀ (n : ℕ) (hn : n < cfg0.N) (l : Fin 48) (k : Fin 60), k.val / 10 ≤ n % 6 →
    (outsAt0 m c n hn).2.2.1 (ix3 0 l k) = (data m c).us ⟨n / 6, by have := lt48 ⟨n, hn⟩; dsimp only at this; omega⟩ k l
  | 0, hn, l, k, hk => by
    rw [ms_first m c ⟨0, hn⟩ rfl, kMs_tok, if_pos (by dsimp only; omega)]
  | n + 1, hn, l, k, hk => by
    have h48 : n + 1 < 48 := lt48 ⟨n + 1, hn⟩
    by_cases h1 : (n + 1) % 6 = 0
    · rw [ms_first m c ⟨n + 1, hn⟩ h1, kMs_tok, if_pos (by dsimp only; omega)]
    · rw [ms_next m c ⟨n + 1, hn⟩ h1, kMs_tok]
      by_cases h : k.val / 10 = (n + 1) % 6
      · rw [if_pos h]
      · rw [if_neg h]
        refine (ms_fold n (Nat.lt_of_succ_lt hn) l k (by omega)).trans ?_
        congr 2
        omega

/-- Likewise the hidden layer's scales. -/
theorem hs_fold : ∀ (n : ℕ) (hn : n < cfg0.N) (l : Fin 48) (k : Fin 60), k.val / 10 ≤ n % 6 →
    (outsAt0 m c n hn).2.2.2.2.1 (ix3 0 l k) = (data m c).hs ⟨n / 6, by have := lt48 ⟨n, hn⟩; dsimp only at this; omega⟩ k l
  | 0, hn, l, k, hk => by
    rw [hs_first m c ⟨0, hn⟩ rfl, kHs_tok, if_pos (by dsimp only; omega)]
  | n + 1, hn, l, k, hk => by
    have h48 : n + 1 < 48 := lt48 ⟨n + 1, hn⟩
    by_cases h1 : (n + 1) % 6 = 0
    · rw [hs_first m c ⟨n + 1, hn⟩ h1, kHs_tok, if_pos (by dsimp only; omega)]
    · rw [hs_next m c ⟨n + 1, hn⟩ h1, kHs_tok]
      by_cases h : k.val / 10 = (n + 1) % 6
      · rw [if_pos h]
      · rw [if_neg h]
        refine (hs_fold n (Nat.lt_of_succ_lt hn) l k (by omega)).trans ?_
        congr 2
        omega

/-- The array of scales. -/
theorem arr18 : (dats m 0 c).arrAt 18 cfg0.N = Ms m c := by
  refine (dats m 0 c).arrAt_eq_of_covers 18 _ (by decide +kernel) fun t hf y => ?_
  rw [after0_18]
  have h5 := (idxO t).2.2.2.2.2.1 hf
  obtain ⟨l, n, rfl⟩ := ix3_of y
  have e : (win0_18.blk t).view.emb (ix3 0 l n) = ix3 ⟨t.val / 6, by have := lt48 t; omega⟩ l n := by blk_ext [idxO t]
  blk_simp
  refine (ms_fold m c t.val t.isLt l n (by omega)).trans (Eq.trans ?_ (congrArg (Ms m c) e.symm))
  rfl

/-- The array of the hidden layer's scales. -/
theorem arr20 : (dats m 0 c).arrAt 20 cfg0.N = Hs m c := by
  refine (dats m 0 c).arrAt_eq_of_covers 20 _ (by decide +kernel) fun t hf y => ?_
  rw [after0_20]
  have h5 := (idxO t).2.2.2.2.2.2 hf
  obtain ⟨l, n, rfl⟩ := ix3_of y
  have e : (win0_20.blk t).view.emb (ix3 0 l n) = ix3 ⟨t.val / 6, by have := lt48 t; omega⟩ l n := by blk_ext [idxO t]
  blk_simp
  refine (hs_fold m c t.val t.isLt l n (by omega)).trans (Eq.trans ?_ (congrArg (Hs m c) e.symm))
  rfl

end Cert.KernelIdeal.Read
-- ==== Proof.RefRow.lean ====
module

public import proofs.«01_k».proof.Proof.Gen.ReferenceIdeal.Skeleton
public import proofs.«01_k».proof.Proof.Arith
/-! # The reference's payloads, row by row

Row `r` of the reference's 23040 rows is computed by the functions of `Row`. -/
set_option maxRecDepth 16384
@[expose] public noncomputable section
open Idealize.ShloMosaic Idealize.ShloMosaic.TcCoe Idealize.SL.Sem
open scoped BigOperators
namespace Cert.ReferenceIdeal.Row
open Cert.ReferenceIdeal Cert.ReferenceIdeal.Gen Cert.Mlp

theorem word127 : (127#32 : BitVec 32).toInt = 127 := by decide
theorem wordm127 : (4294967169#32 : BitVec 32).toInt = -127 := by decide

section first
variable (v0 : Vec Ideal S8x60x48x384 .i8) (v2 : Vec Ideal S23040x1 .f32) (v4 : Vec Ideal S384x384 .i8)
    (v6 v8 : Vec Ideal S1x384 .f32) (r : Fin 23040)

/-- The projection of row `r`. -/
def rLin : Fin 384 → EReal :=
  lin (fun c => codeVal (v0 (ix4 ⟨r.val / 2880, by omega⟩ ⟨r.val / 48 % 60, by omega⟩ ⟨r.val % 48, by omega⟩ c))) (v2 (ix2 r 0))
    (fun c k => codeVal (v4 (ix2 c k))) (fun k => v6 (ix2 0 k)) (fun k => v8 (ix2 0 k))

/-- The projection, centred. -/
theorem p5 (k : Fin 384) : k0_pay5 (F := Ideal) v0 v2 v4 v6 v8 (ix2 r k) = cent (rLin v0 v2 v4 v6 v8 r) k := by
  pointwise [k0_pay5]
  rfl

/-- The sum of its squares. -/
theorem p6 : k0_pay6 (F := Ideal) v0 v2 v4 v6 v8 (ix2 r 0)
    = ∑ k, cent (rLin v0 v2 v4 v6 v8 r) k * cent (rLin v0 v2 v4 v6 v8 r) k := by
  simp only [← p5]
  unfold k0_pay6
  generalize k0_pay5 v0 v2 v4 v6 v8 = X
  pointwise
end first

/-- The quantiser's scale of a column of magnitudes. -/
theorem sel_scale (Y : FVec Ideal S23040x1 .f32) (r : Fin 23040) :
    select (cmpf CmpFPredicate.oeq Y (broadcast S23040x1 (Scalar.ofBits (F := Ideal) FTy.f32 0x00000000#32)))
      (broadcast S23040x1 (Scalar.ofBits (F := Ideal) FTy.f32 0x3F800000#32))
      (divf Y (broadcast S23040x1 (Scalar.ofBits (F := Ideal) FTy.f32 0x42FE0000#32))) (ix2 r 0) = scale (Y (ix2 r 0)) := by
  pointwise
  rfl

/-- A column out of a vector. -/
theorem column (Z : FVec Ideal S23040 .f32) (r : Fin 23040) : shapeCast S23040x1 Z shapeCasts_S23040_S23040x1 (ix2 r 0) = Z (ix1 r) := by
  pointwise

/-- The largest magnitude of a row. -/
theorem row_max (X : FVec Ideal S23040x384 .f32) (r : Fin 23040) :
    multiReduction FKind.maximumf [1] S23040 (absf X) 0xFF800000#32 reduces_S23040x384_S23040 (.inl rfl) rfl (ix1 r)
      = amax fun k => X (ix2 r k) := by
  pointwise
  rw [cbot]
  rfl

/-- The largest magnitude of a hidden row. -/
theorem row_max_hidden (X : FVec Ideal S23040x1536 .f32) (r : Fin 23040) :
    multiReduction FKind.maximumf [1] S23040 (absf X) 0xFF800000#32 reduces_S23040x1536_S23040 (.inl rfl) rfl (ix1 r)
      = amax fun k => X (ix2 r k) := by
  pointwise
  rw [cbot]
  rfl

section mid
variable (v22 : FVec Ideal S23040x384 .f32) (v24 v26 : FVec Ideal S1x384 .f32) (v32 : FVec Ideal S23040x384 .f32)
    (v35 : FVec Ideal S23040x1 .f32) (r : Fin 23040)

/-- The residual and the first layer norm. -/
theorem p7 (w : Fin 384 → EReal) (h32 : ∀ k, v32 (ix2 r k) = cent w k) (h35 : v35 (ix2 r 0) = ∑ k, cent w k * cent w k) (k : Fin 384) :
    k0_pay7 (F := Ideal) v22 v24 v26 v32 v35 (ix2 r k)
      = resid (fun k => v22 (ix2 r k)) w (fun k => v24 (ix2 0 k)) (fun k => v26 (ix2 0 k)) k := by
  pointwise [k0_pay7, h32, h35]
  rfl

/-- The scale of the row. -/
theorem p8 : k0_pay8 (F := Ideal) v22 v24 v26 v32 v35 (ix2 r 0)
    = scale (amax fun k => k0_pay7 (F := Ideal) v22 v24 v26 v32 v35 (ix2 r k)) := by
  unfold k0_pay8
  exact (sel_scale _ r).trans (congrArg scale ((column _ r).trans (row_max _ r)))

/-- The row's codes. -/
theorem p9 (k : Fin 384) : k0_pay9 (F := Ideal) v22 v24 v26 v32 v35 (ix2 r k)
    = code (k0_pay8 (F := Ideal) v22 v24 v26 v32 v35 (ix2 r 0)) (k0_pay7 (F := Ideal) v22 v24 v26 v32 v35 (ix2 r k)) := by
  obtain ⟨X, hX⟩ : ∃ X, k0_pay7 v22 v24 v26 v32 v35 = X := ⟨_, rfl⟩
  obtain ⟨Y, hY⟩ : ∃ Y, k0_pay8 v22 v24 v26 v32 v35 = Y := ⟨_, rfl⟩
  unfold k0_pay9
  rw [hX, hY]
  clear hX hY
  pointwise
  rw [code, clipRound, c127, cm127, word127, wordm127, Int.cast_neg, Int.cast_ofNat]
  rfl

/-- The first layer of the perceptron. -/
theorem p10 (v67 : Vec Ideal S384x1536 .i8) (v68 v70 : Vec Ideal S1x1536 .f32) (k : Fin 1536) :
    k0_pay10 (F := Ideal) v22 v24 v26 v32 v35 v67 v68 v70 (ix2 r k)
      = lin (fun c => codeVal (k0_pay9 (F := Ideal) v22 v24 v26 v32 v35 (ix2 r c))) (k0_pay8 (F := Ideal) v22 v24 v26 v32 v35 (ix2 r 0))
          (fun c k => codeVal (v67 (ix2 c k))) (fun k => v68 (ix2 0 k)) (fun k => v70 (ix2 0 k)) k := by
  obtain ⟨X, hX⟩ : ∃ X, k0_pay9 v22 v24 v26 v32 v35 = X := ⟨_, rfl⟩
  obtain ⟨Y, hY⟩ : ∃ Y, k0_pay8 v22 v24 v26 v32 v35 = Y := ⟨_, rfl⟩
  unfold k0_pay10
  rw [hX, hY]
  clear hX hY
  pointwise
  rfl
end mid

section last
variable (v80 : FVec Ideal S23040x1536 .f32) (r : Fin 23040)

/-- The error-function unit. -/
theorem p11 (k : Fin 1536) : k0_pay11 (F := Ideal) v80 (ix2 r k) = gelu (v80 (ix2 r k)) := by
  pointwise [k0_pay11]
  rfl

/-- The scale of the hidden row. -/
theorem p12 : k0_pay12 (F := Ideal) v80 (ix2 r 0) = scale (amax fun k => k0_pay11 (F := Ideal) v80 (ix2 r k)) := by
  unfold k0_pay12
  exact (sel_scale _ r).trans (congrArg scale ((column _ r).trans (row_max_hidden _ r)))

/-- The hidden row's codes. -/
theorem p13 (k : Fin 1536) : k0_pay13 (F := Ideal) v80 (ix2 r k)
    = code (k0_pay12 (F := Ideal) v80 (ix2 r 0)) (k0_pay11 (F := Ideal) v80 (ix2 r k)) := by
  obtain ⟨X, hX⟩ : ∃ X, k0_pay11 v80 = X := ⟨_, rfl⟩
  obtain ⟨Y, hY⟩ : ∃ Y, k0_pay12 v80 = Y := ⟨_, rfl⟩
  unfold k0_pay13
  rw [hX, hY]
  clear hX hY
  pointwise
  rw [code, clipRound, c127, cm127, word127, wordm127, Int.cast_neg, Int.cast_ofNat]
  rfl

/-- The second layer of the perceptron. -/
theorem p14 (v108 : Vec Ideal S1536x384 .i8) (v109 v111 : Vec Ideal S1x384 .f32) (k : Fin 384) :
    k0_pay14 (F := Ideal) v80 v108 v109 v111 (ix2 r k)
      = lin (fun c => codeVal (k0_pay13 (F := Ideal) v80 (ix2 r c))) (k0_pay12 (F := Ideal) v80 (ix2 r 0))
          (fun c k => codeVal (v108 (ix2 c k))) (fun k => v109 (ix2 0 k)) (fun k => v111 (ix2 0 k)) k := by
  obtain ⟨X, hX⟩ : ∃ X, k0_pay13 v80 = X := ⟨_, rfl⟩
  obtain ⟨Y, hY⟩ : ∃ Y, k0_pay12 v80 = Y := ⟨_, rfl⟩
  unfold k0_pay14
  rw [hX, hY]
  clear hX hY
  pointwise
  rfl
end last

section out
variable (a : Fin 8) (n : Fin 60) (l : Fin 48)

/-- The row of the token of level `a`, column `n` and line `l`. -/
def tok : Fin 23040 := ⟨a.val * 2880 + n.val * 48 + l.val, by omega⟩

/-- The second residual. -/
theorem p15 (v47 v121 : FVec Ideal S23040x384 .f32) (v122 v124 : Vec Ideal S1x384 .f32) (k : Fin 384) :
    k0_pay15 (F := Ideal) v47 v121 v122 v124 (ix4 a n l k)
      = resid (fun k => v47 (ix2 (tok a n l) k)) (fun k => v121 (ix2 (tok a n l) k)) (fun k => v122 (ix2 0 k)) (fun k => v124 (ix2 0 k)) k := by
  pointwise [k0_pay15, tok]
  rfl

theorem p16 (v : IVec S23040x384 8) (k : Fin 384) : k0_pay16 v (ix4 a n l k) = v (ix2 (tok a n l) k) := by
  pointwise [k0_pay16, tok]

theorem p18 (v : IVec S23040x1536 8) (k : Fin 1536) : k0_pay18 v (ix4 a n l k) = v (ix2 (tok a n l) k) := by
  pointwise [k0_pay18, tok]

theorem p17 (v : FVec Ideal S23040x1 .f32) : k0_pay17 (F := Ideal) v (ix3 a l n) = v (ix2 (tok a n l) 0) := by
  pointwise [k0_pay17, tok]

theorem p1 (v : FVec Ideal S23040x1 .f32) : k0_pay1 (F := Ideal) v (ix3 a l n) = v (ix2 (tok a n l) 0) := by
  pointwise [k0_pay1, tok]

theorem p2 (v : Vec Ideal S8x60x48x384 .bf16) (k : Fin 384) : k0_pay2 (F := Ideal) v (ix2 (tok a n l) k) = v (ix4 a n l k) := by
  pointwise [k0_pay2, tok]
end out
theorem p3 (v : Vec Ideal S1x384 .f32) (k : Fin 384) : k0_pay3 (F := Ideal) v (ix2 0 k) = v (ix2 0 k) := by
  pointwise [k0_pay3]
theorem p4 (v : Vec Ideal S1x384 .f32) (k : Fin 384) : k0_pay4 (F := Ideal) v (ix2 0 k) = v (ix2 0 k) := by
  pointwise [k0_pay4]
end Cert.ReferenceIdeal.Row
-- ==== Proof.RRead.lean ====
module

public import proofs.«01_k».proof.Proof.Gen.ReferenceIdeal.Value
public import proofs.«01_k».proof.Proof.Token
public import Idealize.ShloMosaic.Lib.Pipeline.ValueKit
public import Idealize.ShloMosaic.Lib.Pipeline.ReadBack
/-! # What the reference reads

The reference's one grid point reads its operands whole. Its blocks' entries are entries of the arguments; row
`2880 a + 48 n + l` of its column of scales is the token of level `a`, column `n` and line `l`. -/
set_option maxRecDepth 16384
@[expose] public noncomputable section
namespace Cert.ReferenceIdeal.Read
open Cert.ReferenceIdeal Cert.ReferenceIdeal.Gen Cert.Mlp Idealize.ShloMosaic Idealize.ShloMosaic.TcCoe Idealize.SL.Sem
open scoped BigOperators
variable (m : (ℓ : Loc nD τ sig) → Buf (Elt Ideal) ℓ)

/-- What the program reads, off its arguments. -/
def data (c : Dev nD) : Data where
  oc a n l k := codeVal (m ((c : Thread nD τ).loc main_arg1) (ix4 a n l k))
  os a n l := m ((c : Thread nD τ).loc main_arg2) (ix3 a l n)
  x a n l k := m ((c : Thread nD τ).loc main_arg0) (ix5 0 a l n k)
  wp j k := codeVal (m ((c : Thread nD τ).loc main_arg3) (ix3 ⟨j.val / 32, by omega⟩ ⟨j.val % 32, by omega⟩ k))
  w1 j k := codeVal (m ((c : Thread nD τ).loc main_arg6) (ix2 j k))
  w2 j k := codeVal (m ((c : Thread nD τ).loc main_arg9) (ix2 j k))
  sp k := m ((c : Thread nD τ).loc main_arg4) (ix1 k)
  bp k := m ((c : Thread nD τ).loc main_arg5) (ix1 k)
  s1 k := m ((c : Thread nD τ).loc main_arg7) (ix1 k)
  b1 k := m ((c : Thread nD τ).loc main_arg8) (ix1 k)
  s2 k := m ((c : Thread nD τ).loc main_arg10) (ix1 k)
  b2 k := m ((c : Thread nD τ).loc main_arg11) (ix1 k)
  g1 k := m ((c : Thread nD τ).loc main_arg12) (ix1 k)
  be1 k := m ((c : Thread nD τ).loc main_arg13) (ix1 k)
  g2 k := m ((c : Thread nD τ).loc main_arg14) (ix1 k)
  be2 k := m ((c : Thread nD τ).loc main_arg15) (ix1 k)

/-- Every window's block index is zero. -/
theorem idx : ∀ t : Fin cfg0.N, win0_0.index t = ![0, 0, 0, 0] ∧ win0_1.index t = ![0, 0] ∧ win0_2.index t = ![0, 0, 0, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0, 0, 0] ∧ win0_17.index t = ![0, 0, 0, 0] ∧ win0_18.index t = ![0, 0, 0] ∧ win0_19.index t = ![0, 0, 0, 0] ∧ win0_20.index t = ![0, 0, 0] :=
  (by decide +kernel : ∀ t : Fin grid0.N, _)

variable (c : Dev nD) (t : Fin cfg0.N)

/-! The entries of the blocks. -/

theorem r_oc (a : Fin 8) (n : Fin 60) (l : Fin 48) (k : Fin 384) : codeVal (iblk m c 0 t (ix4 a n l k)) = (data m c).oc a n l k := by
  refine congrArg codeVal ?_
  blk_point [iblk, V, idx t]
theorem r_os (a : Fin 8) (n : Fin 60) (l : Fin 48) : iblk m c 1 t (ix2 ⟨a.val * 2880 + n.val * 48 + l.val, by omega⟩ 0) = (data m c).os a n l := by
  show _ = (data m c).os a n l
  have e : iblk m c 1 t (ix2 ⟨a.val * 2880 + n.val * 48 + l.val, by omega⟩ 0) = V m c main_v1 (ix2 ⟨a.val * 2880 + n.val * 48 + l.val, by omega⟩ 0) := by blk_point [iblk, idx t]
  refine e.trans ?_
  entry_read
  pointwise [data]
theorem r_x (a : Fin 8) (n : Fin 60) (l : Fin 48) (k : Fin 384) : iblk m c 2 t (ix4 a n l k) = (data m c).x a n l k := by
  show _ = (data m c).x a n l k
  have e : iblk m c 2 t (ix4 a n l k) = V m c main_v3 (ix4 a n l k) := by blk_point [iblk, idx t]
  refine e.trans ?_
  entry_read
  pointwise [data]
theorem r_wp (j : Fin 384) (k : Fin 384) : codeVal (iblk m c 3 t (ix2 j k)) = (data m c).wp j k := by
  refine congrArg codeVal ?_
  have e : iblk m c 3 t (ix2 j k) = V m c main_v4 (ix2 j k) := by blk_point [iblk, idx t]
  refine e.trans ?_
  entry_read
  pointwise [data]
theorem r_sp (k : Fin 384) : iblk m c 4 t (ix2 0 k) = (data m c).sp k := by
  show _ = (data m c).sp k
  have e : iblk m c 4 t (ix2 0 k) = V m c main_v5 (ix2 0 k) := by blk_point [iblk, idx t]
  refine e.trans ?_
  entry_read
  pointwise [data]
theorem r_bp (k : Fin 384) : iblk m c 5 t (ix2 0 k) = (data m c).bp k := by
  show _ = (data m c).bp k
  have e : iblk m c 5 t (ix2 0 k) = V m c main_v6 (ix2 0 k) := by blk_point [iblk, idx t]
  refine e.trans ?_
  entry_read
  pointwise [data]
theorem r_w1 (j : Fin 384) (k : Fin 1536) : codeVal (iblk m c 6 t (ix2 j k)) = (data m c).w1 j k := by
  refine congrArg codeVal ?_
  blk_point [iblk, V, idx t]
theorem r_s1 (k : Fin 1536) : iblk m c 7 t (ix2 0 k) = (data m c).s1 k := by
  show _ = (data m c).s1 k
  have e : iblk m c 7 t (ix2 0 k) = V m c main_v7 (ix2 0 k) := by blk_point [iblk, idx t]
  refine e.trans ?_
  entry_read
  pointwise [data]
theorem r_b1 (k : Fin 1536) : iblk m c 8 t (ix2 0 k) = (data m c).b1 k := by
  show _ = (data m c).b1 k
  have e : iblk m c 8 t (ix2 0 k) = V m c main_v8 (ix2 0 k) := by blk_point [iblk, idx t]
  refine e.trans ?_
  entry_read
  pointwise [data]
theorem r_w2 (j : Fin 1536) (k : Fin 384) : codeVal (iblk m c 9 t (ix2 j k)) = (data m c).w2 j k := by
  refine congrArg codeVal ?_
  blk_point [iblk, V, idx t]
theorem r_s2 (k : Fin 384) : iblk m c 10 t (ix2 0 k) = (data m c).s2 k := by
  show _ = (data m c).s2 k
  have e : iblk m c 10 t (ix2 0 k) = V m c main_v9 (ix2 0 k) := by blk_point [iblk, idx t]
  refine e.trans ?_
  entry_read
  pointwise [data]
theorem r_b2 (k : Fin 384) : iblk m c 11 t (ix2 0 k) = (data m c).b2 k := by
  show _ = (data m c).b2 k
  have e : iblk m c 11 t (ix2 0 k) = V m c main_v10 (ix2 0 k) := by blk_point [iblk, idx t]
  refine e.trans ?_
  entry_read
  pointwise [data]
theorem r_g1 (k : Fin 384) : iblk m c 12 t (ix2 0 k) = (data m c).g1 k := by
  show _ = (data m c).g1 k
  have e : iblk m c 12 t (ix2 0 k) = V m c main_v11 (ix2 0 k) := by blk_point [iblk, idx t]
  refine e.trans ?_
  entry_read
  pointwise [data]
theorem r_be1 (k : Fin 384) : iblk m c 13 t (ix2 0 k) = (data m c).be1 k := by
  show _ = (data m c).be1 k
  have e : iblk m c 13 t (ix2 0 k) = V m c main_v12 (ix2 0 k) := by blk_point [iblk, idx t]
  refine e.trans ?_
  entry_read
  pointwise [data]
theorem r_g2 (k : Fin 384) : iblk m c 14 t (ix2 0 k) = (data m c).g2 k := by
  show _ = (data m c).g2 k
  have e : iblk m c 14 t (ix2 0 k) = V m c main_v13 (ix2 0 k) := by blk_point [iblk, idx t]
  refine e.trans ?_
  entry_read
  pointwise [data]
theorem r_be2 (k : Fin 384) : iblk m c 15 t (ix2 0 k) = (data m c).be2 k := by
  show _ = (data m c).be2 k
  have e : iblk m c 15 t (ix2 0 k) = V m c main_v14 (ix2 0 k) := by blk_point [iblk, idx t]
  refine e.trans ?_
  entry_read
  pointwise [data]

end Cert.ReferenceIdeal.Read
-- ==== Proof.RefArr.lean ====
module

public import proofs.«01_k».proof.Proof.RefRow
public import proofs.«01_k».proof.Proof.RRead
/-! # The reference's results

Each result array holds, at every token, what `Data` says of the token. -/
set_option maxRecDepth 16384
@[expose] public noncomputable section
namespace Cert.ReferenceIdeal.Read
open Cert.ReferenceIdeal Cert.ReferenceIdeal.Gen Cert.ReferenceIdeal.Row Cert.Mlp Idealize.ShloMosaic Idealize.ShloMosaic.TcCoe Idealize.SL.Sem
open scoped BigOperators
variable (m : (ℓ : Loc nD τ sig) → Buf (Elt Ideal) ℓ) (c : Dev nD) (t : Fin cfg0.N) (a : Fin 8) (n : Fin 60) (l : Fin 48)

/-- The projection of a token's row. -/
theorem lin_tok : rLin (iblk m c 0 t) (iblk m c 1 t) (iblk m c 3 t) (iblk m c 4 t) (iblk m c 5 t) (tok a n l)
    = lin ((data m c).oc a n l) ((data m c).os a n l) (data m c).wp (data m c).sp (data m c).bp := by
  have e1 : (⟨(tok a n l).val / 2880, by omega⟩ : Fin 8) = a := Fin.ext (by unfold tok; dsimp only; omega)
  have e2 : (⟨(tok a n l).val / 48 % 60, by omega⟩ : Fin 60) = n := Fin.ext (by unfold tok; dsimp only; omega)
  have e3 : (⟨(tok a n l).val % 48, by omega⟩ : Fin 48) = l := Fin.ext (by unfold tok; dsimp only; omega)
  unfold rLin
  rw [e1, e2, e3]
  simp only [r_oc, r_wp, r_sp, r_bp, tok, r_os]

/-- The row after the residual. -/
theorem u_tok (k : Fin 384) : k0_pay7 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (ix2 (tok a n l) k) = (data m c).u a n l k := by
  rw [p7 _ _ _ _ _ _ _ (p5 (iblk m c 0 t) (iblk m c 1 t) (iblk m c 3 t) (iblk m c 4 t) (iblk m c 5 t) (tok a n l)) (p6 (iblk m c 0 t) (iblk m c 1 t) (iblk m c 3 t) (iblk m c 4 t) (iblk m c 5 t) (tok a n l)), lin_tok]
  simp only [p2, p3, p4, r_x, r_g1, r_be1]
  rfl

/-- Its scale. -/
theorem us_tok : k0_pay8 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (ix2 (tok a n l) 0) = (data m c).us a n l := by
  rw [p8]
  simp only [u_tok]
  rfl

/-- Its codes. -/
theorem uc_tok (k : Fin 384) : k0_pay9 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (ix2 (tok a n l) k) = code ((data m c).us a n l) ((data m c).u a n l k) := by
  rw [p9, us_tok, u_tok]

/-- The hidden row. -/
theorem h_tok (k : Fin 1536) : k0_pay11 (k0_pay10 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (iblk m c 6 t) (iblk m c 7 t) (iblk m c 8 t)) (ix2 (tok a n l) k) = (data m c).h a n l k := by
  rw [p11, p10]
  simp only [uc_tok, us_tok, r_w1, r_s1, r_b1]
  rfl

/-- Its scale. -/
theorem hs_tok : k0_pay12 (k0_pay10 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (iblk m c 6 t) (iblk m c 7 t) (iblk m c 8 t)) (ix2 (tok a n l) 0) = (data m c).hs a n l := by
  rw [p12]
  simp only [h_tok]
  rfl

/-- Its codes. -/
theorem hc_tok (k : Fin 1536) : k0_pay13 (k0_pay10 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (iblk m c 6 t) (iblk m c 7 t) (iblk m c 8 t)) (ix2 (tok a n l) k) = code ((data m c).hs a n l) ((data m c).h a n l k) := by
  rw [p13, hs_tok, h_tok]

/-- The second layer. -/
theorem f_tok (k : Fin 384) : k0_pay14 (k0_pay10 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (iblk m c 6 t) (iblk m c 7 t) (iblk m c 8 t)) (iblk m c 9 t) (iblk m c 10 t) (iblk m c 11 t) (ix2 (tok a n l) k)
    = second ((data m c).h a n l) (data m c).w2 (data m c).s2 (data m c).b2 k := by
  rw [p14]
  simp only [hc_tok, hs_tok, r_w2, r_s2, r_b2]
  rfl

/-- The result. -/
theorem y_tok (k : Fin 384) : k0_pay15 (k0_pay7 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t))) (k0_pay14 (k0_pay10 (k0_pay2 (iblk m c 2 t)) (k0_pay3 (iblk m c 12 t)) (k0_pay4 (iblk m c 13 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (iblk m c 6 t) (iblk m c 7 t) (iblk m c 8 t)) (iblk m c 9 t) (iblk m c 10 t) (iblk m c 11 t)) (iblk m c 14 t) (iblk m c 15 t) (ix4 a n l k) = (data m c).y a n l k := by
  rw [p15]
  simp only [u_tok, f_tok, r_g2, r_be2]
  rfl

/-- The result. -/
def Y : FVec Ideal S8x60x48x384 .bf16 := fun i => (data m c).y (i 0) (i 1) (i 2) (i 3)

/-- The codes of the rows after the residual. -/
def Mc : IVec S8x60x48x384 8 := fun i => code ((data m c).us (i 0) (i 1) (i 2)) ((data m c).u (i 0) (i 1) (i 2) (i 3))

/-- Their scales. -/
def Ms : FVec Ideal S8x48x60 .f32 := fun i => (data m c).us (i 0) (i 2) (i 1)

/-- The codes of the hidden rows. -/
def Hc : IVec S8x60x48x1536 8 := fun i => code ((data m c).hs (i 0) (i 1) (i 2)) ((data m c).h (i 0) (i 1) (i 2) (i 3))

/-- Their scales. -/
def Hs : FVec Ideal S8x48x60 .f32 := fun i => (data m c).hs (i 0) (i 2) (i 1)

theorem ix4_of (y : S8x60x48x384.Idx) : ∃ (a : Fin 8) (n : Fin 60) (l : Fin 48) (k : Fin 384), y = ix4 a n l k := by
  refine ⟨y 0, y 1, y 2, y 3, ?_⟩
  blk_ext

theorem ix4h_of (y : S8x60x48x1536.Idx) : ∃ (a : Fin 8) (n : Fin 60) (l : Fin 48) (k : Fin 1536), y = ix4 a n l k := by
  refine ⟨y 0, y 1, y 2, y 3, ?_⟩
  blk_ext

theorem ix3_of (y : S8x48x60.Idx) : ∃ (a : Fin 8) (l : Fin 48) (n : Fin 60), y = ix3 a l n := by
  refine ⟨y 0, y 1, y 2, ?_⟩
  blk_ext

/-- The result array. -/
theorem arr16 : (dats m 0 c).arrAt 16 cfg0.N = Y m c := by
  refine (dats m 0 c).arrAt_eq_of_after_last 16 t0_0 (by decide +kernel) _ fun j => ?_
  obtain ⟨a, n, l, k, rfl⟩ := ix4_of j
  blk_simp
  rw [after0_16]
  unfold_out out0_16
  frame_out
  exact y_tok m c t0_0 a n l k

/-- The array of codes. -/
theorem arr17 : (dats m 0 c).arrAt 17 cfg0.N = Mc m c := by
  refine (dats m 0 c).arrAt_eq_of_after_last 17 t0_0 (by decide +kernel) _ fun j => ?_
  obtain ⟨a, n, l, k, rfl⟩ := ix4_of j
  blk_simp
  rw [after0_17]
  unfold_out out0_17
  frame_out
  exact (p16 a n l _ k).trans (uc_tok m c t0_0 a n l k)

/-- The array of scales. -/
theorem arr18 : (dats m 0 c).arrAt 18 cfg0.N = Ms m c := by
  refine (dats m 0 c).arrAt_eq_of_after_last 18 t0_0 (by decide +kernel) _ fun j => ?_
  obtain ⟨a, l, n, rfl⟩ := ix3_of j
  blk_simp
  rw [after0_18]
  unfold_out out0_18
  frame_out
  exact (p17 a n l _).trans (us_tok m c t0_0 a n l)

/-- The array of the hidden layer's codes. -/
theorem arr19 : (dats m 0 c).arrAt 19 cfg0.N = Hc m c := by
  refine (dats m 0 c).arrAt_eq_of_after_last 19 t0_0 (by decide +kernel) _ fun j => ?_
  obtain ⟨a, n, l, k, rfl⟩ := ix4h_of j
  blk_simp
  rw [after0_19]
  unfold_out out0_19
  frame_out
  exact (p18 a n l _ k).trans (hc_tok m c t0_0 a n l k)

/-- The array of the hidden layer's scales. -/
theorem arr20 : (dats m 0 c).arrAt 20 cfg0.N = Hs m c := by
  refine (dats m 0 c).arrAt_eq_of_after_last 20 t0_0 (by decide +kernel) _ fun j => ?_
  obtain ⟨a, l, n, rfl⟩ := ix3_of j
  blk_simp
  rw [after0_20]
  unfold_out out0_20
  frame_out
  exact (p1 a n l _).trans (hs_tok m c t0_0 a n l)

end Cert.ReferenceIdeal.Read
-- ==== Proof.Equation.lean ====
module

public import proofs.«01_k».proof.Defs
public import proofs.«01_k».proof.Proof.KArr
public import proofs.«01_k».proof.Proof.RefArr
/-! # The kernel and the reference leave equal results

Both result tuples are the same functions of what the programs read, and they read equal arguments. -/
set_option maxRecDepth 16384
@[expose] public noncomputable section
namespace Cert.Proof
open Idealize.ShloMosaic Idealize.ShloMosaic.TcCoe Idealize.SL.Sem

/-- From equal arguments the two programs read the same data. -/
theorem data_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14))
    (h15 : m' ((c.tc : Thread ReferenceIdeal.nD ReferenceIdeal.τ).loc ReferenceIdeal.main_arg15) = m ((c.tc : Thread KernelIdeal.nD KernelIdeal.τ).loc KernelIdeal.main_arg15)) :
    ReferenceIdeal.Read.data m' c = KernelIdeal.Read.data m c := by
  unfold ReferenceIdeal.Read.data KernelIdeal.Read.data
  simp only [h0, h1, h2, h3, h4, h5, h6, h7, h8, h9, h10, h11, h12, h13, h14, h15]

/-- The algebraic claim. -/
theorem algebraic : algebraic_KernelIdeal_ReferenceIdeal (hKernelIdeal := KernelIdeal.Gen.facts) (hReferenceIdeal := ReferenceIdeal.Gen.facts) := by
  letI := KernelIdeal.Gen.facts
  letI := ReferenceIdeal.Gen.facts
  intro m g m' g' _ h
  have d : ∀ c, ReferenceIdeal.Read.data m' c = KernelIdeal.Read.data m c := fun c => by
    obtain ⟨h0, h1, h2, h3, h4, h5, h6, h7, h8, h9, h10, h11, h12, h13, h14, h15⟩ := h c
    exact data_eq m m' c h0 h1 h2 h3 h4 h5 h6 h7 h8 h9 h10 h11 h12 h13 h14 h15
  refine ⟨fun c => KernelIdeal.Read.Y m c, fun c => KernelIdeal.Read.Mc m c, fun c => KernelIdeal.Read.Ms m c, fun c => KernelIdeal.Read.Hc m c,
    fun c => KernelIdeal.Read.Hs m c, ?_, ?_⟩
  · refine (θ_run _ _ _).mono (fun r q c => ?_) (KernelIdeal.Value.run_blocks m g)
    obtain ⟨q0, q1, q2, q3, q4, qa⟩ := q c
    exact ⟨q0.trans (KernelIdeal.Read.arr16 m c), q1.trans (KernelIdeal.Read.arr17 m c), q2.trans (KernelIdeal.Read.arr18 m c),
      q3.trans (KernelIdeal.Read.arr19 m c), q4.trans (KernelIdeal.Read.arr20 m c), qa⟩
  · refine (θ_run _ _ _).mono (fun r q c => ?_) (ReferenceIdeal.Value.run_blocks m' g')
    obtain ⟨q0, q1, q2, q3, q4, qa⟩ := q c
    refine ⟨q0.trans ((ReferenceIdeal.Read.arr16 m' c).trans ?_), q1.trans ((ReferenceIdeal.Read.arr17 m' c).trans ?_),
      q2.trans ((ReferenceIdeal.Read.arr18 m' c).trans ?_), q3.trans ((ReferenceIdeal.Read.arr19 m' c).trans ?_),
      q4.trans ((ReferenceIdeal.Read.arr20 m' c).trans ?_), qa⟩
    · unfold ReferenceIdeal.Read.Y KernelIdeal.Read.Y
      rw [d c]
    · unfold ReferenceIdeal.Read.Mc KernelIdeal.Read.Mc
      rw [d c]
    · unfold ReferenceIdeal.Read.Ms KernelIdeal.Read.Ms
      rw [d c]
    · unfold ReferenceIdeal.Read.Hc KernelIdeal.Read.Hc
      rw [d c]
    · unfold ReferenceIdeal.Read.Hs KernelIdeal.Read.Hs
      rw [d c]

end Cert.Proof
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
